-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "keep_sq" .f32 0x3F7AE7D5#32 ((282494591793853209 / 288230376151711744 : ℝ) : EReal)
  ∧ IdealRules.named_const.Statement Cert.KernelIdeal.κ "cross" .f32 0x3CA2339C#32 ((2853480660765927 / 144115188075855872 : ℝ) : EReal)
  ∧ IdealRules.named_const.Statement Cert.KernelIdeal.κ "rate_sq" .f32 0x38D1B717#32 ((28823036326681 / 288230376151711744 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x256x128 : Shape := ⟨3, ![4, 256, 128]⟩
abbrev S16x16x128 : Shape := ⟨3, ![16, 16, 128]⟩
abbrev S_ : Shape := ⟨0, ![]⟩

class Facts : Prop where
  bcast_S_S4x256x128 : S_.BroadcastsInDim S4x256x128 (![] : Fin 0 → Fin S4x256x128.rank)
  reducesTo_S4x256x128_S_d0_1_2 : S4x256x128.ReducesTo [0, 1, 2] S_
  h_S_ : 0 < S_.numel
  bcast_S_S16x16x128 : S_.BroadcastsInDim S16x16x128 (![] : Fin 0 → Fin S16x16x128.rank)
  reducesTo_S16x16x128_S_d0_1_2 : S16x16x128.ReducesTo [0, 1, 2] S_

variable [Facts]

def fn {F : FTy → Type} [FloatOps F] (main_arg0 : FVec F S4x256x128 .f32) (main_arg1 : FVec F S16x16x128 .f32) : IVec S_ 1 :=
  let main_v0 : FVec F S4x256x128 .f32 := Host.absf main_arg0
  let main_cst : FVec F S_ .f32 := constant S_ .f32 0x7F800000#32
  let main_v1 : FVec F S4x256x128 .f32 := broadcastInDim S4x256x128 ![] bcast_S_S4x256x128 main_cst
  let main_v2 : IVec S4x256x128 1 := cmpf .olt main_v0 main_v1
  let main_c : IVec S_ 1 := constantI S_ 1 1#1
  let main_v3 : IVec S_ 1 := (fun x v => Host.reduce IntOp.andi x v reducesTo_S4x256x128_S_d0_1_2 h_S_) main_v2 main_c
  let main_v4 : FVec F S16x16x128 .f32 := Host.absf main_arg1
  let main_cst_0 : FVec F S_ .f32 := constant S_ .f32 0x7F800000#32
  let main_v5 : FVec F S16x16x128 .f32 := broadcastInDim S16x16x128 ![] bcast_S_S16x16x128 main_cst_0
  let main_v6 : IVec S16x16x128 1 := cmpf .olt main_v4 main_v5
  let main_c_1 : IVec S_ 1 := constantI S_ 1 1#1
  let main_v7 : IVec S_ 1 := (fun x v => Host.reduce IntOp.andi x v reducesTo_S16x16x128_S_d0_1_2 h_S_) main_v6 main_c_1
  let main_v8 : IVec S_ 1 := andi main_v3 main_v7
  main_v8
-- ==== Kernel.lean ====
abbrev S4x256x128 : Shape := ⟨3, ![4, 256, 128]⟩
abbrev S16x16x128 : Shape := ⟨3, ![16, 16, 128]⟩
abbrev S256x4x128 : Shape := ⟨3, ![256, 4, 128]⟩
abbrev S256x128 : Shape := ⟨2, ![256, 128]⟩
abbrev S4x128 : Shape := ⟨2, ![4, 128]⟩
abbrev S4x256 : Shape := ⟨2, ![4, 256]⟩
abbrev S1x256x128 : Shape := ⟨3, ![1, 256, 128]⟩
abbrev S256 : Shape := ⟨1, ![256]⟩
abbrev S1x256 : Shape := ⟨2, ![1, 256]⟩
abbrev S1x4x128 : Shape := ⟨3, ![1, 4, 128]⟩
abbrev S4x1x128 : Shape := ⟨3, ![4, 1, 128]⟩
abbrev S4 : Shape := ⟨1, ![4]⟩
abbrev S4x1 : Shape := ⟨2, ![4, 1]⟩
abbrev S4x256x1 : Shape := ⟨3, ![4, 256, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x256x128, .f32⟩
  | .hbm, ⟨1, _⟩ => ⟨S16x16x128, .f32⟩
  | .hbm, ⟨2, _⟩ => ⟨S256x4x128, .f32⟩
  | .hbm, ⟨3, _⟩ => ⟨S256x128, .f32⟩
  | .hbm, ⟨4, _⟩ => ⟨S4x128, .f32⟩
  | .local _ .vmem, ⟨0, _⟩ => ⟨S256x4x128, .f32⟩
  | .local _ .vmem, ⟨1, _⟩ => ⟨S256x128, .f32⟩
  | .local _ .vmem, ⟨2, _⟩ => ⟨S4x128, .f32⟩
  | .local _ .vmem, ⟨3, _⟩ => ⟨S4x256x128, .f32⟩
  | .local _ .vmem, ⟨4, _⟩ => ⟨S4x256, .f32⟩
  | _, _ => ⟨S4x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c768_i32 : BitVec 32 := 768#32
  let v17 : BitVec 32 := Scalar.addi c0_i32 c768_i32
  let c1_i32 : BitVec 32 := 1#32
  ⟨c0_i32, v17, c1_i32⟩
def k0_off1 (k0_t1 : Fin k0_t1_loop.trips) : Fin 3 → Nat :=
  let c0_i32 : BitVec 32 := 0#32
  let c1_i32 : BitVec 32 := 1#32
  let arg5 : BitVec 32 := Scf.iv c0_i32 c1_i32 k0_t1
  let c256_i32 : BitVec 32 := 256#32
  let v21 : BitVec 32 := Scalar.remsi arg5 c256_i32
  let v22 : Index := Scalar.indexCast v21
  let c0_17 : Index := 0#32
  let c0_18 : Index := 0#32
  ![v22.toNat, 0, 0]
abbrev stage0_0 : Fin 1 → Memref sig .tc .vmem S256x4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "cross" => some ((2853480660765927 / 144115188075855872 : ℝ) : EReal)
  | "keep_sq" => some ((282494591793853209 / 288230376151711744 : ℝ) : EReal)
  | "rate_sq" => some ((28823036326681 / 288230376151711744 : ℝ) : EReal)
  | _ => none
-- ==== ReferenceIdeal.lean ====
abbrev S4x256x128 : Shape := ⟨3, ![4, 256, 128]⟩
abbrev S16x16x128 : Shape := ⟨3, ![16, 16, 128]⟩
abbrev S256x4x128 : Shape := ⟨3, ![256, 4, 128]⟩
abbrev S768x4x128 : Shape := ⟨3, ![768, 4, 128]⟩
abbrev S4x16x16x128 : Shape := ⟨4, ![4, 16, 16, 128]⟩
abbrev S_ : Shape := ⟨0, ![]⟩
abbrev S1x4x128 : Shape := ⟨3, ![1, 4, 128]⟩
abbrev S4x128 : Shape := ⟨2, ![4, 128]⟩
abbrev S4 : Shape := ⟨1, ![4]⟩
abbrev S4x1x128 : Shape := ⟨3, ![4, 1, 128]⟩
abbrev S4x256 : Shape := ⟨2, ![4, 256]⟩
abbrev S4x1 : Shape := ⟨2, ![4, 1]⟩
abbrev S4x3 : Shape := ⟨2, ![4, 3]⟩

abbrev nBuf : Space → Nat
  | .hbm => 486
  | .vmem => 0
  | .smem => 0
  | _ => 0

abbrev hbmTy0_0 (i : Nat) : BufTy := match i % 128 with
  | 0 => ⟨S4x256x128, .f32⟩
  | 1 => ⟨S16x16x128, .f32⟩
  | 2 => ⟨S256x4x128, .f32⟩
  | 3 => ⟨S768x4x128, .f32⟩
  | 4 => ⟨S4x16x16x128, .f32⟩
  | 5 => ⟨S_, .i32⟩
  | 6 => ⟨S_, .i32⟩
  | 7 => ⟨S768x4x128, .f32⟩
  | 8 => ⟨S_, .i32⟩
  | 9 => ⟨S_, .i32⟩
  | 10 => ⟨S4x16x16x128, .f32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S1x4x128, .f32⟩
  | 38 => ⟨S4x128, .f32⟩
  | 39 => ⟨S4, .i32⟩
  | 40 => ⟨S4x256x128, .f32⟩
  | 41 => ⟨S4x1x128, .f32⟩
  | 42 => ⟨S4x256x128, .f32⟩
  | 43 => ⟨S4x256x128, .f32⟩
  | 44 => ⟨S4x256x128, .f32⟩
  | 45 => ⟨S_, .f32⟩
  | 46 => ⟨S4x256, .f32⟩
  | 47 => ⟨S4x256, .f32⟩
  | 48 => ⟨S4x256, .i32⟩
  | 49 => ⟨S_, .f32⟩
  | 50 => ⟨S_, .i32⟩
  | 51 => ⟨S4, .f32⟩
  | 52 => ⟨S4, .i32⟩
  | 53 => ⟨S_, .i32⟩
  | 54 => ⟨S_, .i32⟩
  | 55 => ⟨S4, .i32⟩
  | 56 => ⟨S4, .i32⟩
  | 57 => ⟨S4, .i32⟩
  | 58 => ⟨S_, .i32⟩
  | 59 => ⟨S4, .i32⟩
  | 60 => ⟨S4, .i1⟩
  | 61 => ⟨S4, .i32⟩
  | 62 => ⟨S4, .i32⟩
  | 63 => ⟨S_, .i32⟩
  | 64 => ⟨S4, .i32⟩
  | 65 => ⟨S4, .i1⟩
  | 66 => ⟨S4, .i1⟩
  | 67 => ⟨S_, .i32⟩
  | 68 => ⟨S4, .i32⟩
  | 69 => ⟨S4, .i32⟩
  | 70 => ⟨S4, .i32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S4, .i32⟩
  | 78 => ⟨S4, .i32⟩
  | 79 => ⟨S_, .i32⟩
  | 80 => ⟨S4, .i32⟩
  | 81 => ⟨S4, .i1⟩
  | 82 => ⟨S_, .i32⟩
  | 83 => ⟨S4, .i32⟩
  | 84 => ⟨S4, .i1⟩
  | 85 => ⟨S_, .i32⟩
  | 86 => ⟨S_, .i1⟩
  | 87 => ⟨S4, .i1⟩
  | 88 => ⟨S4, .i1⟩
  | 89 => ⟨S4, .i1⟩
  | 90 => ⟨S4, .i32⟩
  | 91 => ⟨S4, .i32⟩
  | 92 => ⟨S4, .i32⟩
  | 93 => ⟨S_, .i32⟩
  | 94 => ⟨S4, .i32⟩
  | 95 => ⟨S4, .i32⟩
  | 96 => ⟨S_, .i32⟩
  | 97 => ⟨S4, .i32⟩
  | 98 => ⟨S4, .i32⟩
  | 99 => ⟨S_, .i32⟩
  | 100 => ⟨S4, .i32⟩
  | 101 => ⟨S4, .i1⟩
  | 102 => ⟨S_, .i32⟩
  | 103 => ⟨S4, .i32⟩
  | 104 => ⟨S4, .i1⟩
  | 105 => ⟨S4, .i1⟩
  | 106 => ⟨S_, .i32⟩
  | 107 => ⟨S4, .i32⟩
  | 108 => ⟨S4, .i1⟩
  | 109 => ⟨S4, .i1⟩
  | 110 => ⟨S_, .i32⟩
  | 111 => ⟨S4, .i32⟩
  | 112 => ⟨S4, .i1⟩
  | 113 => ⟨S4, .i1⟩
  | 114 => ⟨S_, .i32⟩
  | 115 => ⟨S_, .i32⟩
  | 116 => ⟨S_, .i32⟩
  | 117 => ⟨S4, .i32⟩
  | 118 => ⟨S4, .i32⟩
  | 119 => ⟨S_, .i32⟩
  | 120 => ⟨S4, .i32⟩
  | 121 => ⟨S4, .i32⟩
  | 122 => ⟨S_, .i32⟩
  | 123 => ⟨S_, .i32⟩
  | 124 => ⟨S_, .i32⟩
  | 125 => ⟨S4, .i32⟩
  | 126 => ⟨S4, .i32⟩
  | 127 => ⟨S_, .i32⟩
  | _ => ⟨S4x256x128, .f32⟩

abbrev hbmTy0_1 (i : Nat) : BufTy := match i % 128 with
  | 0 => ⟨S4, .i32⟩
  | 1 => ⟨S4, .i32⟩
  | 2 => ⟨S_, .i32⟩
  | 3 => ⟨S4, .i32⟩
  | 4 => ⟨S4, .i1⟩
  | 5 => ⟨S_, .i32⟩
  | 6 => ⟨S4, .i32⟩
  | 7 => ⟨S4, .i32⟩
  | 8 => ⟨S4, .i32⟩
  | 9 => ⟨S_, .i32⟩
  | 10 => ⟨S4, .i32⟩
  | 11 => ⟨S4, .i1⟩
  | 12 => ⟨S_, .i32⟩
  | 13 => ⟨S4, .i32⟩
  | 14 => ⟨S4, .i32⟩
  | 15 => ⟨S4, .i32⟩
  | 16 => ⟨S_, .i32⟩
  | 17 => ⟨S4, .i32⟩
  | 18 => ⟨S4, .i1⟩
  | 19 => ⟨S_, .i32⟩
  | 20 => ⟨S4, .i32⟩
  | 21 => ⟨S4, .i32⟩
  | 22 => ⟨S4, .i32⟩
  | 23 => ⟨S4x1, .i32⟩
  | 24 => ⟨S4x1, .i32⟩
  | 25 => ⟨S4x1, .i32⟩
  | 26 => ⟨S4x3, .i32⟩
  | 27 => ⟨S4x128, .f32⟩
  | 28 => ⟨S4x128, .f32⟩
  | 29 => ⟨S_, .f32⟩
  | 30 => ⟨S4x128, .f32⟩
  | 31 => ⟨S4x128, .f32⟩
  | 32 => ⟨S4x128, .f32⟩
  | 33 => ⟨S4x1, .i1⟩
  | 34 => ⟨S4x128, .i1⟩
  | 35 => ⟨S4x128, .f32⟩
  | 36 => ⟨S_, .i32⟩
  | 37 => ⟨S4, .i32⟩
  | 38 => ⟨S4, .i1⟩
  | 39 => ⟨S_, .i32⟩
  | 40 => ⟨S4, .i32⟩
  | 41 => ⟨S4, .i32⟩
  | 42 => ⟨S4, .i32⟩
  | 43 => ⟨S_, .i32⟩
  | 44 => ⟨S4, .i32⟩
  | 45 => ⟨S4, .i1⟩
  | 46 => ⟨S_, .i32⟩
  | 47 => ⟨S4, .i32⟩
  | 48 => ⟨S4, .i32⟩
  | 49 => ⟨S4, .i32⟩
  | 50 => ⟨S_, .i32⟩
  | 51 => ⟨S4, .i32⟩
  | 52 => ⟨S4, .i1⟩
  | 53 => ⟨S_, .i32⟩
  | 54 => ⟨S4, .i32⟩
  | 55 => ⟨S4, .i32⟩
  | 56 => ⟨S4, .i32⟩
  | 57 => ⟨S4x1, .i32⟩
  | 58 => ⟨S4x1, .i32⟩
  | 59 => ⟨S4x1, .i32⟩
  | 60 => ⟨S4x3, .i32⟩
  | 61 => ⟨S4x16x16x128, .f32⟩
  | 62 => ⟨S_, .i32⟩
  | 63 => ⟨S4, .i32⟩
  | 64 => ⟨S4, .i32⟩
  | 65 => ⟨S_, .i32⟩
  | 66 => ⟨S4, .i32⟩
  | 67 => ⟨S4, .i32⟩
  | 68 => ⟨S_, .i32⟩
  | 69 => ⟨S4, .i32⟩
  | 70 => ⟨S4, .i1⟩
  | 71 => ⟨S_, .i32⟩
  | 72 => ⟨S4, .i32⟩
  | 73 => ⟨S4, .i1⟩
  | 74 => ⟨S4, .i1⟩
  | 75 => ⟨S_, .i32⟩
  | 76 => ⟨S4, .i32⟩
  | 77 => ⟨S4, .i1⟩
  | 78 => ⟨S4, .i1⟩
  | 79 => ⟨S_, .i32⟩
  | 80 => ⟨S4, .i32⟩
  | 81 => ⟨S4, .i1⟩
  | 82 => ⟨S4, .i1⟩
  | 83 => ⟨S_, .i32⟩
  | 84 => ⟨S_, .i32⟩
  | 85 => ⟨S_, .i32⟩
  | 86 => ⟨S4, .i32⟩
  | 87 => ⟨S4, .i32⟩
  | 88 => ⟨S_, .i32⟩
  | 89 => ⟨S4, .i32⟩
  | 90 => ⟨S4, .i32⟩
  | 91 => ⟨S_, .i32⟩
  | 92 => ⟨S_, .i32⟩
  | 93 => ⟨S_, .i32⟩
  | 94 => ⟨S4, .i32⟩
  | 95 => ⟨S4, .i32⟩
  | 96 => ⟨S_, .i32⟩
  | 97 => ⟨S4, .i32⟩
  | 98 => ⟨S4, .i32⟩
  | 99 => ⟨S_, .i32⟩
  | 100 => ⟨S4, .i32⟩
  | 101 => ⟨S4, .i1⟩
  | 102 => ⟨S_, .i32⟩
  | 103 => ⟨S4, .i32⟩
  | 104 => ⟨S4, .i32⟩
  | 105 => ⟨S4, .i32⟩
  | 106 => ⟨S_, .i32⟩
  | 107 => ⟨S4, .i32⟩
  | 108 => ⟨S4, .i1⟩
  | 109 => ⟨S_, .i32⟩
  | 110 => ⟨S4, .i32⟩
  | 111 => ⟨S4, .i32⟩
  | 112 => ⟨S4, .i32⟩
  | 113 => ⟨S_, .i32⟩
  | 114 => ⟨S4, .i32⟩
  | 115 => ⟨S4, .i1⟩
  | 116 => ⟨S_, .i32⟩
  | 117 => ⟨S4, .i32⟩
  | 118 => ⟨S4, .i32⟩
  | 119 => ⟨S4, .i32⟩
  | 120 => ⟨S4x1, .i32⟩
  | 121 => ⟨S4x1, .i32⟩
  | 122 => ⟨S4x1, .i32⟩
  | 123 => ⟨S4x3, .i32⟩
  | 124 => ⟨S4x128, .f32⟩
  | 125 => ⟨S4x128, .f32⟩
  | 126 => ⟨S_, .f32⟩
  | 127 => ⟨S4x128, .f32⟩
  | _ => ⟨S4x256x128, .f32⟩

abbrev hbmTy0_2 (i : Nat) : BufTy := match i % 128 with
  | 0 => ⟨S4x128, .f32⟩
  | 1 => ⟨S4x128, .f32⟩
  | 2 => ⟨S4x1, .i1⟩
  | 3 => ⟨S4x128, .i1⟩
  | 4 => ⟨S4x128, .f32⟩
  | 5 => ⟨S_, .i32⟩
  | 6 => ⟨S4, .i32⟩
  | 7 => ⟨S4, .i1⟩
  | 8 => ⟨S_, .i32⟩
  | 9 => ⟨S4, .i32⟩
  | 10 => ⟨S4, .i32⟩
  | 11 => ⟨S4, .i32⟩
  | 12 => ⟨S_, .i32⟩
  | 13 => ⟨S4, .i32⟩
  | 14 => ⟨S4, .i1⟩
  | 15 => ⟨S_, .i32⟩
  | 16 => ⟨S4, .i32⟩
  | 17 => ⟨S4, .i32⟩
  | 18 => ⟨S4, .i32⟩
  | 19 => ⟨S_, .i32⟩
  | 20 => ⟨S4, .i32⟩
  | 21 => ⟨S4, .i1⟩
  | 22 => ⟨S_, .i32⟩
  | 23 => ⟨S4, .i32⟩
  | 24 => ⟨S4, .i32⟩
  | 25 => ⟨S4, .i32⟩
  | 26 => ⟨S4x1, .i32⟩
  | 27 => ⟨S4x1, .i32⟩
  | 28 => ⟨S4x1, .i32⟩
  | 29 => ⟨S4x3, .i32⟩
  | 30 => ⟨S4x16x16x128, .f32⟩
  | 31 => ⟨S_, .i32⟩
  | 32 => ⟨S4, .i32⟩
  | 33 => ⟨S4, .i32⟩
  | 34 => ⟨S_, .i32⟩
  | 35 => ⟨S4, .i32⟩
  | 36 => ⟨S4, .i32⟩
  | 37 => ⟨S_, .i32⟩
  | 38 => ⟨S4, .i32⟩
  | 39 => ⟨S4, .i1⟩
  | 40 => ⟨S_, .i32⟩
  | 41 => ⟨S4, .i32⟩
  | 42 => ⟨S4, .i1⟩
  | 43 => ⟨S4, .i1⟩
  | 44 => ⟨S_, .i32⟩
  | 45 => ⟨S4, .i32⟩
  | 46 => ⟨S4, .i1⟩
  | 47 => ⟨S4, .i1⟩
  | 48 => ⟨S_, .i32⟩
  | 49 => ⟨S4, .i32⟩
  | 50 => ⟨S4, .i1⟩
  | 51 => ⟨S4, .i1⟩
  | 52 => ⟨S_, .i32⟩
  | 53 => ⟨S_, .i32⟩
  | 54 => ⟨S_, .i32⟩
  | 55 => ⟨S4, .i32⟩
  | 56 => ⟨S4, .i32⟩
  | 57 => ⟨S_, .i32⟩
  | 58 => ⟨S4, .i32⟩
  | 59 => ⟨S4, .i32⟩
  | 60 => ⟨S_, .i32⟩
  | 61 => ⟨S_, .i32⟩
  | 62 => ⟨S_, .i32⟩
  | 63 => ⟨S4, .i32⟩
  | 64 => ⟨S4, .i32⟩
  | 65 => ⟨S_, .i32⟩
  | 66 => ⟨S4, .i32⟩
  | 67 => ⟨S4, .i32⟩
  | 68 => ⟨S_, .i32⟩
  | 69 => ⟨S4, .i32⟩
  | 70 => ⟨S4, .i1⟩
  | 71 => ⟨S_, .i32⟩
  | 72 => ⟨S4, .i32⟩
  | 73 => ⟨S4, .i32⟩
  | 74 => ⟨S4, .i32⟩
  | 75 => ⟨S_, .i32⟩
  | 76 => ⟨S4, .i32⟩
  | 77 => ⟨S4, .i1⟩
  | 78 => ⟨S_, .i32⟩
  | 79 => ⟨S4, .i32⟩
  | 80 => ⟨S4, .i32⟩
  | 81 => ⟨S4, .i32⟩
  | 82 => ⟨S_, .i32⟩
  | 83 => ⟨S4, .i32⟩
  | 84 => ⟨S4, .i1⟩
  | 85 => ⟨S_, .i32⟩
  | 86 => ⟨S4, .i32⟩
  | 87 => ⟨S4, .i32⟩
  | 88 => ⟨S4, .i32⟩
  | 89 => ⟨S4x1, .i32⟩
  | 90 => ⟨S4x1, .i32⟩
  | 91 => ⟨S4x1, .i32⟩
  | 92 => ⟨S4x3, .i32⟩
  | 93 => ⟨S4x128, .f32⟩
  | 94 => ⟨S4x128, .f32⟩
  | 95 => ⟨S_, .f32⟩
  | 96 => ⟨S4x128, .f32⟩
  | 97 => ⟨S4x128, .f32⟩
  | 98 => ⟨S4x128, .f32⟩
  | 99 => ⟨S4x1, .i1⟩
  | 100 => ⟨S4x128, .i1⟩
  | 101 => ⟨S4x128, .f32⟩
  | 102 => ⟨S_, .i32⟩
  | 103 => ⟨S4, .i32⟩
  | 104 => ⟨S4, .i1⟩
  | 105 => ⟨S_, .i32⟩
  | 106 => ⟨S4, .i32⟩
  | 107 => ⟨S4, .i32⟩
  | 108 => ⟨S4, .i32⟩
  | 109 => ⟨S_, .i32⟩
  | 110 => ⟨S4, .i32⟩
  | 111 => ⟨S4, .i1⟩
  | 112 => ⟨S_, .i32⟩
  | 113 => ⟨S4, .i32⟩
  | 114 => ⟨S4, .i32⟩
  | 115 => ⟨S4, .i32⟩
  | 116 => ⟨S_, .i32⟩
  | 117 => ⟨S4, .i32⟩
  | 118 => ⟨S4, .i1⟩
  | 119 => ⟨S_, .i32⟩
  | 120 => ⟨S4, .i32⟩
  | 121 => ⟨S4, .i32⟩
  | 122 => ⟨S4, .i32⟩
  | 123 => ⟨S4x1, .i32⟩
  | 124 => ⟨S4x1, .i32⟩
  | 125 => ⟨S4x1, .i32⟩
  | 126 => ⟨S4x3, .i32⟩
  | 127 => ⟨S4x16x16x128, .f32⟩
  | _ => ⟨S4x256x128, .f32⟩

abbrev hbmTy0_3 (i : Nat) : BufTy := match i % 128 with
  | 0 => ⟨S_, .i32⟩
  | 1 => ⟨S4, .i32⟩
  | 2 => ⟨S4, .i32⟩
  | 3 => ⟨S_, .i32⟩
  | 4 => ⟨S4, .i32⟩
  | 5 => ⟨S4, .i32⟩
  | 6 => ⟨S_, .i32⟩
  | 7 => ⟨S4, .i32⟩
  | 8 => ⟨S4, .i1⟩
  | 9 => ⟨S_, .i32⟩
  | 10 => ⟨S4, .i32⟩
  | 11 => ⟨S4, .i1⟩
  | 12 => ⟨S4, .i1⟩
  | 13 => ⟨S_, .i32⟩
  | 14 => ⟨S4, .i32⟩
  | 15 => ⟨S4, .i1⟩
  | 16 => ⟨S4, .i1⟩
  | 17 => ⟨S_, .i32⟩
  | 18 => ⟨S4, .i32⟩
  | 19 => ⟨S4, .i1⟩
  | 20 => ⟨S4, .i1⟩
  | 21 => ⟨S_, .i32⟩
  | 22 => ⟨S_, .i32⟩
  | 23 => ⟨S_, .i32⟩
  | 24 => ⟨S4, .i32⟩
  | 25 => ⟨S4, .i32⟩
  | 26 => ⟨S_, .i32⟩
  | 27 => ⟨S4, .i32⟩
  | 28 => ⟨S4, .i32⟩
  | 29 => ⟨S_, .i32⟩
  | 30 => ⟨S_, .i32⟩
  | 31 => ⟨S_, .i32⟩
  | 32 => ⟨S4, .i32⟩
  | 33 => ⟨S4, .i32⟩
  | 34 => ⟨S_, .i32⟩
  | 35 => ⟨S4, .i32⟩
  | 36 => ⟨S4, .i32⟩
  | 37 => ⟨S_, .i32⟩
  | 38 => ⟨S4, .i32⟩
  | 39 => ⟨S4, .i1⟩
  | 40 => ⟨S_, .i32⟩
  | 41 => ⟨S4, .i32⟩
  | 42 => ⟨S4, .i32⟩
  | 43 => ⟨S4, .i32⟩
  | 44 => ⟨S_, .i32⟩
  | 45 => ⟨S4, .i32⟩
  | 46 => ⟨S4, .i1⟩
  | 47 => ⟨S_, .i32⟩
  | 48 => ⟨S4, .i32⟩
  | 49 => ⟨S4, .i32⟩
  | 50 => ⟨S4, .i32⟩
  | 51 => ⟨S_, .i32⟩
  | 52 => ⟨S4, .i32⟩
  | 53 => ⟨S4, .i1⟩
  | 54 => ⟨S_, .i32⟩
  | 55 => ⟨S4, .i32⟩
  | 56 => ⟨S4, .i32⟩
  | 57 => ⟨S4, .i32⟩
  | 58 => ⟨S4x1, .i32⟩
  | 59 => ⟨S4x1, .i32⟩
  | 60 => ⟨S4x1, .i32⟩
  | 61 => ⟨S4x3, .i32⟩
  | 62 => ⟨S4x128, .f32⟩
  | 63 => ⟨S4x128, .f32⟩
  | 64 => ⟨S_, .f32⟩
  | 65 => ⟨S4x128, .f32⟩
  | 66 => ⟨S4x128, .f32⟩
  | 67 => ⟨S4x128, .f32⟩
  | 68 => ⟨S4x1, .i1⟩
  | 69 => ⟨S4x128, .i1⟩
  | 70 => ⟨S4x128, .f32⟩
  | 71 => ⟨S_, .i32⟩
  | 72 => ⟨S4, .i32⟩
  | 73 => ⟨S4, .i1⟩
  | 74 => ⟨S_, .i32⟩
  | 75 => ⟨S4, .i32⟩
  | 76 => ⟨S4, .i32⟩
  | 77 => ⟨S4, .i32⟩
  | 78 => ⟨S_, .i32⟩
  | 79 => ⟨S4, .i32⟩
  | 80 => ⟨S4, .i1⟩
  | 81 => ⟨S_, .i32⟩
  | 82 => ⟨S4, .i32⟩
  | 83 => ⟨S4, .i32⟩
  | 84 => ⟨S4, .i32⟩
  | 85 => ⟨S_, .i32⟩
  | 86 => ⟨S4, .i32⟩
  | 87 => ⟨S4, .i1⟩
  | 88 => ⟨S_, .i32⟩
  | 89 => ⟨S4, .i32⟩
  | 90 => ⟨S4, .i32⟩
  | 91 => ⟨S4, .i32⟩
  | 92 => ⟨S4x1, .i32⟩
  | 93 => ⟨S4x1, .i32⟩
  | 94 => ⟨S4x1, .i32⟩
  | 95 => ⟨S4x3, .i32⟩
  | 96 => ⟨S4x16x16x128, .f32⟩
  | 97 => ⟨S_, .i32⟩
  | 98 => ⟨S_, .i32⟩
  | 99 => ⟨S4x256x128, .f32⟩
  | 100 => ⟨S_, .f32⟩
  | 101 => ⟨S4x128, .f32⟩
  | _ => ⟨S4x256x128, .f32⟩

abbrev hbmTy (i : Nat) : BufTy := match i / 128 with
  | 0 => hbmTy0_0 i
  | 1 => hbmTy0_1 i
  | 2 => hbmTy0_2 i
  | 3 => hbmTy0_3 i
  | _ => ⟨S4x256x128, .f32⟩

abbrev bufTy : (tb : Table) → Fin (tcTables nBuf tb) → BufTy
  | .hbm, ⟨i, _⟩ => hbmTy i
  | _, _ => ⟨S4x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_c_0 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_while0c_c_4 : Ref sig .tc := ⟨.hbm, 11, rfl⟩
abbrev main_while0c_v6 : Ref sig .tc := ⟨.hbm, 12, rfl⟩
abbrev main_while0b_c_4 : Ref sig .tc := ⟨.hbm, 13, rfl⟩
abbrev main_while0b_v6 : Ref sig .tc := ⟨.hbm, 14, rfl⟩
abbrev main_while0b_v7 : Ref sig .tc := ⟨.hbm, 15, rfl⟩
abbrev main_while0b_c_5 : Ref sig .tc := ⟨.hbm, 16, rfl⟩
abbrev main_while0b_v8 : Ref sig .tc := ⟨.hbm, 17, rfl⟩
abbrev main_while0b_c_6 : Ref sig .tc := ⟨.hbm, 18, rfl⟩
abbrev main_while0b_v9 : Ref sig .tc := ⟨.hbm, 19, rfl⟩
abbrev main_while0b_v10 : Ref sig .tc := ⟨.hbm, 20, rfl⟩
abbrev main_while0b_c_7 : Ref sig .tc := ⟨.hbm, 21, rfl⟩
abbrev main_while0b_c_8 : Ref sig .tc := ⟨.hbm, 22, rfl⟩
abbrev main_while0b_v11 : Ref sig .tc := ⟨.hbm, 23, rfl⟩
abbrev main_while0b_c_9 : Ref sig .tc := ⟨.hbm, 24, rfl⟩
abbrev main_while0b_c_10 : Ref sig .tc := ⟨.hbm, 25, rfl⟩
abbrev main_while0b_v12 : Ref sig .tc := ⟨.hbm, 26, rfl⟩
abbrev main_while0b_c_11 : Ref sig .tc := ⟨.hbm, 27, rfl⟩
abbrev main_while0b_v13 : Ref sig .tc := ⟨.hbm, 28, rfl⟩
abbrev main_while0b_c_12 : Ref sig .tc := ⟨.hbm, 29, rfl⟩
abbrev main_while0b_c_13 : Ref sig .tc := ⟨.hbm, 30, rfl⟩
abbrev main_while0b_v14 : Ref sig .tc := ⟨.hbm, 31, rfl⟩
abbrev main_while0b_c_14 : Ref sig .tc := ⟨.hbm, 32, rfl⟩
abbrev main_while0b_c_15 : Ref sig .tc := ⟨.hbm, 33, rfl⟩
abbrev main_while0b_v15 : Ref sig .tc := ⟨.hbm, 34, rfl⟩
abbrev main_while0b_c_16 : Ref sig .tc := ⟨.hbm, 35, rfl⟩
abbrev main_while0b_v16 : Ref sig .tc := ⟨.hbm, 36, rfl⟩
abbrev main_while0b_v17 : Ref sig .tc := ⟨.hbm, 37, rfl⟩
abbrev main_while0b_v18 : Ref sig .tc := ⟨.hbm, 38, rfl⟩
abbrev main_while0b_v19 : Ref sig .tc := ⟨.hbm, 39, rfl⟩
abbrev main_while0b_v20 : Ref sig .tc := ⟨.hbm, 40, rfl⟩
abbrev main_while0b_v21 : Ref sig .tc := ⟨.hbm, 41, rfl⟩
abbrev main_while0b_v22 : Ref sig .tc := ⟨.hbm, 42, rfl⟩
abbrev main_while0b_v23 : Ref sig .tc := ⟨.hbm, 43, rfl⟩
abbrev main_while0b_v24 : Ref sig .tc := ⟨.hbm, 44, rfl⟩
abbrev main_while0b_cst_17 : Ref sig .tc := ⟨.hbm, 45, rfl⟩
abbrev main_while0b_v25 : Ref sig .tc := ⟨.hbm, 46, rfl⟩
abbrev main_while0b_v26 : Ref sig .tc := ⟨.hbm, 47, rfl⟩
abbrev main_while0b_call0_v0 : Ref sig .tc := ⟨.hbm, 48, rfl⟩
abbrev main_while0b_call0_cst : Ref sig .tc := ⟨.hbm, 49, rfl⟩
abbrev main_while0b_call0_c : Ref sig .tc := ⟨.hbm, 50, rfl⟩
abbrev main_while0b_call0_v1_0 : Ref sig .tc := ⟨.hbm, 51, rfl⟩
abbrev main_while0b_v27 : Ref sig .tc := ⟨.hbm, 52, rfl⟩
abbrev main_while0b_c_18 : Ref sig .tc := ⟨.hbm, 53, rfl⟩
abbrev main_while0b_call1_v0 : Ref sig .tc := ⟨.hbm, 54, rfl⟩
abbrev main_while0b_call1_v1 : Ref sig .tc := ⟨.hbm, 55, rfl⟩
abbrev main_while0b_call1_v2 : Ref sig .tc := ⟨.hbm, 56, rfl⟩
abbrev main_while0b_call1_v3 : Ref sig .tc := ⟨.hbm, 57, rfl⟩
abbrev main_while0b_call1_v4 : Ref sig .tc := ⟨.hbm, 58, rfl⟩
abbrev main_while0b_call1_v5 : Ref sig .tc := ⟨.hbm, 59, rfl⟩
abbrev main_while0b_call1_v6 : Ref sig .tc := ⟨.hbm, 60, rfl⟩
abbrev main_while0b_call1_v7 : Ref sig .tc := ⟨.hbm, 61, rfl⟩
abbrev main_while0b_call1_v8 : Ref sig .tc := ⟨.hbm, 62, rfl⟩
abbrev main_while0b_call1_c : Ref sig .tc := ⟨.hbm, 63, rfl⟩
abbrev main_while0b_call1_v9 : Ref sig .tc := ⟨.hbm, 64, rfl⟩
abbrev main_while0b_call1_v10 : Ref sig .tc := ⟨.hbm, 65, rfl⟩
abbrev main_while0b_call1_v11 : Ref sig .tc := ⟨.hbm, 66, rfl⟩
abbrev main_while0b_call1_c_0 : Ref sig .tc := ⟨.hbm, 67, rfl⟩
abbrev main_while0b_call1_v12 : Ref sig .tc := ⟨.hbm, 68, rfl⟩
abbrev main_while0b_call1_v13 : Ref sig .tc := ⟨.hbm, 69, rfl⟩
abbrev main_while0b_v28 : Ref sig .tc := ⟨.hbm, 70, rfl⟩
abbrev main_while0b_c_19 : Ref sig .tc := ⟨.hbm, 71, rfl⟩
abbrev main_while0b_call2_v0 : Ref sig .tc := ⟨.hbm, 72, rfl⟩
abbrev main_while0b_call2_c : Ref sig .tc := ⟨.hbm, 73, rfl⟩
abbrev main_while0b_call2_v1 : Ref sig .tc := ⟨.hbm, 74, rfl⟩
abbrev main_while0b_call2_c_0 : Ref sig .tc := ⟨.hbm, 75, rfl⟩
abbrev main_while0b_call2_v2 : Ref sig .tc := ⟨.hbm, 76, rfl⟩
abbrev main_while0b_call2_v3 : Ref sig .tc := ⟨.hbm, 77, rfl⟩
abbrev main_while0b_call2_v4 : Ref sig .tc := ⟨.hbm, 78, rfl⟩
abbrev main_while0b_call2_c_1 : Ref sig .tc := ⟨.hbm, 79, rfl⟩
abbrev main_while0b_call2_v5 : Ref sig .tc := ⟨.hbm, 80, rfl⟩
abbrev main_while0b_call2_v6 : Ref sig .tc := ⟨.hbm, 81, rfl⟩
abbrev main_while0b_call2_c_2 : Ref sig .tc := ⟨.hbm, 82, rfl⟩
abbrev main_while0b_call2_v7 : Ref sig .tc := ⟨.hbm, 83, rfl⟩
abbrev main_while0b_call2_v8 : Ref sig .tc := ⟨.hbm, 84, rfl⟩
abbrev main_while0b_call2_c_3 : Ref sig .tc := ⟨.hbm, 85, rfl⟩
abbrev main_while0b_call2_v9 : Ref sig .tc := ⟨.hbm, 86, rfl⟩
abbrev main_while0b_call2_v10 : Ref sig .tc := ⟨.hbm, 87, rfl⟩
abbrev main_while0b_call2_v11 : Ref sig .tc := ⟨.hbm, 88, rfl⟩
abbrev main_while0b_call2_v12 : Ref sig .tc := ⟨.hbm, 89, rfl⟩
abbrev main_while0b_call2_v13 : Ref sig .tc := ⟨.hbm, 90, rfl⟩
abbrev main_while0b_call2_v14 : Ref sig .tc := ⟨.hbm, 91, rfl⟩
abbrev main_while0b_v29 : Ref sig .tc := ⟨.hbm, 92, rfl⟩
abbrev main_while0b_c_20 : Ref sig .tc := ⟨.hbm, 93, rfl⟩
abbrev main_while0b_v30 : Ref sig .tc := ⟨.hbm, 94, rfl⟩
abbrev main_while0b_v31 : Ref sig .tc := ⟨.hbm, 95, rfl⟩
abbrev main_while0b_c_21 : Ref sig .tc := ⟨.hbm, 96, rfl⟩
abbrev main_while0b_v32 : Ref sig .tc := ⟨.hbm, 97, rfl⟩
abbrev main_while0b_v33 : Ref sig .tc := ⟨.hbm, 98, rfl⟩
abbrev main_while0b_c_22 : Ref sig .tc := ⟨.hbm, 99, rfl⟩
abbrev main_while0b_v34 : Ref sig .tc := ⟨.hbm, 100, rfl⟩
abbrev main_while0b_v35 : Ref sig .tc := ⟨.hbm, 101, rfl⟩
abbrev main_while0b_c_23 : Ref sig .tc := ⟨.hbm, 102, rfl⟩
abbrev main_while0b_v36 : Ref sig .tc := ⟨.hbm, 103, rfl⟩
abbrev main_while0b_v37 : Ref sig .tc := ⟨.hbm, 104, rfl⟩
abbrev main_while0b_v38 : Ref sig .tc := ⟨.hbm, 105, rfl⟩
abbrev main_while0b_c_24 : Ref sig .tc := ⟨.hbm, 106, rfl⟩
abbrev main_while0b_v39 : Ref sig .tc := ⟨.hbm, 107, rfl⟩
abbrev main_while0b_v40 : Ref sig .tc := ⟨.hbm, 108, rfl⟩
abbrev main_while0b_v41 : Ref sig .tc := ⟨.hbm, 109, rfl⟩
abbrev main_while0b_c_25 : Ref sig .tc := ⟨.hbm, 110, rfl⟩
abbrev main_while0b_v42 : Ref sig .tc := ⟨.hbm, 111, rfl⟩
abbrev main_while0b_v43 : Ref sig .tc := ⟨.hbm, 112, rfl⟩
abbrev main_while0b_v44 : Ref sig .tc := ⟨.hbm, 113, rfl⟩
abbrev main_while0b_c_26 : Ref sig .tc := ⟨.hbm, 114, rfl⟩
abbrev main_while0b_c_27 : Ref sig .tc := ⟨.hbm, 115, rfl⟩
abbrev main_while0b_call3_v0 : Ref sig .tc := ⟨.hbm, 116, rfl⟩
abbrev main_while0b_call3_v1 : Ref sig .tc := ⟨.hbm, 117, rfl⟩
abbrev main_while0b_call3_v2 : Ref sig .tc := ⟨.hbm, 118, rfl⟩
abbrev main_while0b_call3_v3 : Ref sig .tc := ⟨.hbm, 119, rfl⟩
abbrev main_while0b_call3_v4 : Ref sig .tc := ⟨.hbm, 120, rfl⟩
abbrev main_while0b_v45 : Ref sig .tc := ⟨.hbm, 121, rfl⟩
abbrev main_while0b_c_28 : Ref sig .tc := ⟨.hbm, 122, rfl⟩
abbrev main_while0b_c_29 : Ref sig .tc := ⟨.hbm, 123, rfl⟩
abbrev main_while0b_call4_v0 : Ref sig .tc := ⟨.hbm, 124, rfl⟩
abbrev main_while0b_call4_v1 : Ref sig .tc := ⟨.hbm, 125, rfl⟩
abbrev main_while0b_call4_v2 : Ref sig .tc := ⟨.hbm, 126, rfl⟩
abbrev main_while0b_call4_v3 : Ref sig .tc := ⟨.hbm, 127, rfl⟩
abbrev main_while0b_call4_v4 : Ref sig .tc := ⟨.hbm, 128, rfl⟩
abbrev main_while0b_v46 : Ref sig .tc := ⟨.hbm, 129, rfl⟩
abbrev main_while0b_c_30 : Ref sig .tc := ⟨.hbm, 130, rfl⟩
abbrev main_while0b_v47 : Ref sig .tc := ⟨.hbm, 131, rfl⟩
abbrev main_while0b_v48 : Ref sig .tc := ⟨.hbm, 132, rfl⟩
abbrev main_while0b_c_31 : Ref sig .tc := ⟨.hbm, 133, rfl⟩
abbrev main_while0b_v49 : Ref sig .tc := ⟨.hbm, 134, rfl⟩
abbrev main_while0b_v50 : Ref sig .tc := ⟨.hbm, 135, rfl⟩
abbrev main_while0b_v51 : Ref sig .tc := ⟨.hbm, 136, rfl⟩
abbrev main_while0b_c_32 : Ref sig .tc := ⟨.hbm, 137, rfl⟩
abbrev main_while0b_v52 : Ref sig .tc := ⟨.hbm, 138, rfl⟩
abbrev main_while0b_v53 : Ref sig .tc := ⟨.hbm, 139, rfl⟩
abbrev main_while0b_c_33 : Ref sig .tc := ⟨.hbm, 140, rfl⟩
abbrev main_while0b_v54 : Ref sig .tc := ⟨.hbm, 141, rfl⟩
abbrev main_while0b_v55 : Ref sig .tc := ⟨.hbm, 142, rfl⟩
abbrev main_while0b_v56 : Ref sig .tc := ⟨.hbm, 143, rfl⟩
abbrev main_while0b_c_34 : Ref sig .tc := ⟨.hbm, 144, rfl⟩
abbrev main_while0b_v57 : Ref sig .tc := ⟨.hbm, 145, rfl⟩
abbrev main_while0b_v58 : Ref sig .tc := ⟨.hbm, 146, rfl⟩
abbrev main_while0b_c_35 : Ref sig .tc := ⟨.hbm, 147, rfl⟩
abbrev main_while0b_v59 : Ref sig .tc := ⟨.hbm, 148, rfl⟩
abbrev main_while0b_v60 : Ref sig .tc := ⟨.hbm, 149, rfl⟩
abbrev main_while0b_v61 : Ref sig .tc := ⟨.hbm, 150, rfl⟩
abbrev main_while0b_v62 : Ref sig .tc := ⟨.hbm, 151, rfl⟩
abbrev main_while0b_v63 : Ref sig .tc := ⟨.hbm, 152, rfl⟩
abbrev main_while0b_v64 : Ref sig .tc := ⟨.hbm, 153, rfl⟩
abbrev main_while0b_v65 : Ref sig .tc := ⟨.hbm, 154, rfl⟩
abbrev main_while0b_v66 : Ref sig .tc := ⟨.hbm, 155, rfl⟩
abbrev main_while0b_v67 : Ref sig .tc := ⟨.hbm, 156, rfl⟩
abbrev main_while0b_cst_36 : Ref sig .tc := ⟨.hbm, 157, rfl⟩
abbrev main_while0b_v68 : Ref sig .tc := ⟨.hbm, 158, rfl⟩
abbrev main_while0b_v69 : Ref sig .tc := ⟨.hbm, 159, rfl⟩
abbrev main_while0b_v70 : Ref sig .tc := ⟨.hbm, 160, rfl⟩
abbrev main_while0b_v71 : Ref sig .tc := ⟨.hbm, 161, rfl⟩
abbrev main_while0b_call5_v0 : Ref sig .tc := ⟨.hbm, 162, rfl⟩
abbrev main_while0b_v72 : Ref sig .tc := ⟨.hbm, 163, rfl⟩
abbrev main_while0b_c_37 : Ref sig .tc := ⟨.hbm, 164, rfl⟩
abbrev main_while0b_v73 : Ref sig .tc := ⟨.hbm, 165, rfl⟩
abbrev main_while0b_v74 : Ref sig .tc := ⟨.hbm, 166, rfl⟩
abbrev main_while0b_c_38 : Ref sig .tc := ⟨.hbm, 167, rfl⟩
abbrev main_while0b_v75 : Ref sig .tc := ⟨.hbm, 168, rfl⟩
abbrev main_while0b_v76 : Ref sig .tc := ⟨.hbm, 169, rfl⟩
abbrev main_while0b_v77 : Ref sig .tc := ⟨.hbm, 170, rfl⟩
abbrev main_while0b_c_39 : Ref sig .tc := ⟨.hbm, 171, rfl⟩
abbrev main_while0b_v78 : Ref sig .tc := ⟨.hbm, 172, rfl⟩
abbrev main_while0b_v79 : Ref sig .tc := ⟨.hbm, 173, rfl⟩
abbrev main_while0b_c_40 : Ref sig .tc := ⟨.hbm, 174, rfl⟩
abbrev main_while0b_v80 : Ref sig .tc := ⟨.hbm, 175, rfl⟩
abbrev main_while0b_v81 : Ref sig .tc := ⟨.hbm, 176, rfl⟩
abbrev main_while0b_v82 : Ref sig .tc := ⟨.hbm, 177, rfl⟩
abbrev main_while0b_c_41 : Ref sig .tc := ⟨.hbm, 178, rfl⟩
abbrev main_while0b_v83 : Ref sig .tc := ⟨.hbm, 179, rfl⟩
abbrev main_while0b_v84 : Ref sig .tc := ⟨.hbm, 180, rfl⟩
abbrev main_while0b_c_42 : Ref sig .tc := ⟨.hbm, 181, rfl⟩
abbrev main_while0b_v85 : Ref sig .tc := ⟨.hbm, 182, rfl⟩
abbrev main_while0b_v86 : Ref sig .tc := ⟨.hbm, 183, rfl⟩
abbrev main_while0b_v87 : Ref sig .tc := ⟨.hbm, 184, rfl⟩
abbrev main_while0b_v88 : Ref sig .tc := ⟨.hbm, 185, rfl⟩
abbrev main_while0b_v89 : Ref sig .tc := ⟨.hbm, 186, rfl⟩
abbrev main_while0b_v90 : Ref sig .tc := ⟨.hbm, 187, rfl⟩
abbrev main_while0b_v91 : Ref sig .tc := ⟨.hbm, 188, rfl⟩
abbrev main_while0b_v92 : Ref sig .tc := ⟨.hbm, 189, rfl⟩
abbrev main_while0b_c_43 : Ref sig .tc := ⟨.hbm, 190, rfl⟩
abbrev main_while0b_v93 : Ref sig .tc := ⟨.hbm, 191, rfl⟩
abbrev main_while0b_v94 : Ref sig .tc := ⟨.hbm, 192, rfl⟩
abbrev main_while0b_c_44 : Ref sig .tc := ⟨.hbm, 193, rfl⟩
abbrev main_while0b_v95 : Ref sig .tc := ⟨.hbm, 194, rfl⟩
abbrev main_while0b_v96 : Ref sig .tc := ⟨.hbm, 195, rfl⟩
abbrev main_while0b_c_45 : Ref sig .tc := ⟨.hbm, 196, rfl⟩
abbrev main_while0b_v97 : Ref sig .tc := ⟨.hbm, 197, rfl⟩
abbrev main_while0b_v98 : Ref sig .tc := ⟨.hbm, 198, rfl⟩
abbrev main_while0b_c_46 : Ref sig .tc := ⟨.hbm, 199, rfl⟩
abbrev main_while0b_v99 : Ref sig .tc := ⟨.hbm, 200, rfl⟩
abbrev main_while0b_v100 : Ref sig .tc := ⟨.hbm, 201, rfl⟩
abbrev main_while0b_v101 : Ref sig .tc := ⟨.hbm, 202, rfl⟩
abbrev main_while0b_c_47 : Ref sig .tc := ⟨.hbm, 203, rfl⟩
abbrev main_while0b_v102 : Ref sig .tc := ⟨.hbm, 204, rfl⟩
abbrev main_while0b_v103 : Ref sig .tc := ⟨.hbm, 205, rfl⟩
abbrev main_while0b_v104 : Ref sig .tc := ⟨.hbm, 206, rfl⟩
abbrev main_while0b_c_48 : Ref sig .tc := ⟨.hbm, 207, rfl⟩
abbrev main_while0b_v105 : Ref sig .tc := ⟨.hbm, 208, rfl⟩
abbrev main_while0b_v106 : Ref sig .tc := ⟨.hbm, 209, rfl⟩
abbrev main_while0b_v107 : Ref sig .tc := ⟨.hbm, 210, rfl⟩
abbrev main_while0b_c_49 : Ref sig .tc := ⟨.hbm, 211, rfl⟩
abbrev main_while0b_c_50 : Ref sig .tc := ⟨.hbm, 212, rfl⟩
abbrev main_while0b_call6_v0 : Ref sig .tc := ⟨.hbm, 213, rfl⟩
abbrev main_while0b_call6_v1 : Ref sig .tc := ⟨.hbm, 214, rfl⟩
abbrev main_while0b_call6_v2 : Ref sig .tc := ⟨.hbm, 215, rfl⟩
abbrev main_while0b_call6_v3 : Ref sig .tc := ⟨.hbm, 216, rfl⟩
abbrev main_while0b_call6_v4 : Ref sig .tc := ⟨.hbm, 217, rfl⟩
abbrev main_while0b_v108 : Ref sig .tc := ⟨.hbm, 218, rfl⟩
abbrev main_while0b_c_51 : Ref sig .tc := ⟨.hbm, 219, rfl⟩
abbrev main_while0b_c_52 : Ref sig .tc := ⟨.hbm, 220, rfl⟩
abbrev main_while0b_call7_v0 : Ref sig .tc := ⟨.hbm, 221, rfl⟩
abbrev main_while0b_call7_v1 : Ref sig .tc := ⟨.hbm, 222, rfl⟩
abbrev main_while0b_call7_v2 : Ref sig .tc := ⟨.hbm, 223, rfl⟩
abbrev main_while0b_call7_v3 : Ref sig .tc := ⟨.hbm, 224, rfl⟩
abbrev main_while0b_call7_v4 : Ref sig .tc := ⟨.hbm, 225, rfl⟩
abbrev main_while0b_v109 : Ref sig .tc := ⟨.hbm, 226, rfl⟩
abbrev main_while0b_c_53 : Ref sig .tc := ⟨.hbm, 227, rfl⟩
abbrev main_while0b_v110 : Ref sig .tc := ⟨.hbm, 228, rfl⟩
abbrev main_while0b_v111 : Ref sig .tc := ⟨.hbm, 229, rfl⟩
abbrev main_while0b_c_54 : Ref sig .tc := ⟨.hbm, 230, rfl⟩
abbrev main_while0b_v112 : Ref sig .tc := ⟨.hbm, 231, rfl⟩
abbrev main_while0b_v113 : Ref sig .tc := ⟨.hbm, 232, rfl⟩
abbrev main_while0b_v114 : Ref sig .tc := ⟨.hbm, 233, rfl⟩
abbrev main_while0b_c_55 : Ref sig .tc := ⟨.hbm, 234, rfl⟩
abbrev main_while0b_v115 : Ref sig .tc := ⟨.hbm, 235, rfl⟩
abbrev main_while0b_v116 : Ref sig .tc := ⟨.hbm, 236, rfl⟩
abbrev main_while0b_c_56 : Ref sig .tc := ⟨.hbm, 237, rfl⟩
abbrev main_while0b_v117 : Ref sig .tc := ⟨.hbm, 238, rfl⟩
abbrev main_while0b_v118 : Ref sig .tc := ⟨.hbm, 239, rfl⟩
abbrev main_while0b_v119 : Ref sig .tc := ⟨.hbm, 240, rfl⟩
abbrev main_while0b_c_57 : Ref sig .tc := ⟨.hbm, 241, rfl⟩
abbrev main_while0b_v120 : Ref sig .tc := ⟨.hbm, 242, rfl⟩
abbrev main_while0b_v121 : Ref sig .tc := ⟨.hbm, 243, rfl⟩
abbrev main_while0b_c_58 : Ref sig .tc := ⟨.hbm, 244, rfl⟩
abbrev main_while0b_v122 : Ref sig .tc := ⟨.hbm, 245, rfl⟩
abbrev main_while0b_v123 : Ref sig .tc := ⟨.hbm, 246, rfl⟩
abbrev main_while0b_v124 : Ref sig .tc := ⟨.hbm, 247, rfl⟩
abbrev main_while0b_v125 : Ref sig .tc := ⟨.hbm, 248, rfl⟩
abbrev main_while0b_v126 : Ref sig .tc := ⟨.hbm, 249, rfl⟩
abbrev main_while0b_v127 : Ref sig .tc := ⟨.hbm, 250, rfl⟩
abbrev main_while0b_v128 : Ref sig .tc := ⟨.hbm, 251, rfl⟩
abbrev main_while0b_v129 : Ref sig .tc := ⟨.hbm, 252, rfl⟩
abbrev main_while0b_v130 : Ref sig .tc := ⟨.hbm, 253, rfl⟩
abbrev main_while0b_cst_59 : Ref sig .tc := ⟨.hbm, 254, rfl⟩
abbrev main_while0b_v131 : Ref sig .tc := ⟨.hbm, 255, rfl⟩
abbrev main_while0b_v132 : Ref sig .tc := ⟨.hbm, 256, rfl⟩
abbrev main_while0b_v133 : Ref sig .tc := ⟨.hbm, 257, rfl⟩
abbrev main_while0b_v134 : Ref sig .tc := ⟨.hbm, 258, rfl⟩
abbrev main_while0b_call8_v0 : Ref sig .tc := ⟨.hbm, 259, rfl⟩
abbrev main_while0b_v135 : Ref sig .tc := ⟨.hbm, 260, rfl⟩
abbrev main_while0b_c_60 : Ref sig .tc := ⟨.hbm, 261, rfl⟩
abbrev main_while0b_v136 : Ref sig .tc := ⟨.hbm, 262, rfl⟩
abbrev main_while0b_v137 : Ref sig .tc := ⟨.hbm, 263, rfl⟩
abbrev main_while0b_c_61 : Ref sig .tc := ⟨.hbm, 264, rfl⟩
abbrev main_while0b_v138 : Ref sig .tc := ⟨.hbm, 265, rfl⟩
abbrev main_while0b_v139 : Ref sig .tc := ⟨.hbm, 266, rfl⟩
abbrev main_while0b_v140 : Ref sig .tc := ⟨.hbm, 267, rfl⟩
abbrev main_while0b_c_62 : Ref sig .tc := ⟨.hbm, 268, rfl⟩
abbrev main_while0b_v141 : Ref sig .tc := ⟨.hbm, 269, rfl⟩
abbrev main_while0b_v142 : Ref sig .tc := ⟨.hbm, 270, rfl⟩
abbrev main_while0b_c_63 : Ref sig .tc := ⟨.hbm, 271, rfl⟩
abbrev main_while0b_v143 : Ref sig .tc := ⟨.hbm, 272, rfl⟩
abbrev main_while0b_v144 : Ref sig .tc := ⟨.hbm, 273, rfl⟩
abbrev main_while0b_v145 : Ref sig .tc := ⟨.hbm, 274, rfl⟩
abbrev main_while0b_c_64 : Ref sig .tc := ⟨.hbm, 275, rfl⟩
abbrev main_while0b_v146 : Ref sig .tc := ⟨.hbm, 276, rfl⟩
abbrev main_while0b_v147 : Ref sig .tc := ⟨.hbm, 277, rfl⟩
abbrev main_while0b_c_65 : Ref sig .tc := ⟨.hbm, 278, rfl⟩
abbrev main_while0b_v148 : Ref sig .tc := ⟨.hbm, 279, rfl⟩
abbrev main_while0b_v149 : Ref sig .tc := ⟨.hbm, 280, rfl⟩
abbrev main_while0b_v150 : Ref sig .tc := ⟨.hbm, 281, rfl⟩
abbrev main_while0b_v151 : Ref sig .tc := ⟨.hbm, 282, rfl⟩
abbrev main_while0b_v152 : Ref sig .tc := ⟨.hbm, 283, rfl⟩
abbrev main_while0b_v153 : Ref sig .tc := ⟨.hbm, 284, rfl⟩
abbrev main_while0b_v154 : Ref sig .tc := ⟨.hbm, 285, rfl⟩
abbrev main_while0b_v155 : Ref sig .tc := ⟨.hbm, 286, rfl⟩
abbrev main_while0b_c_66 : Ref sig .tc := ⟨.hbm, 287, rfl⟩
abbrev main_while0b_v156 : Ref sig .tc := ⟨.hbm, 288, rfl⟩
abbrev main_while0b_v157 : Ref sig .tc := ⟨.hbm, 289, rfl⟩
abbrev main_while0b_c_67 : Ref sig .tc := ⟨.hbm, 290, rfl⟩
abbrev main_while0b_v158 : Ref sig .tc := ⟨.hbm, 291, rfl⟩
abbrev main_while0b_v159 : Ref sig .tc := ⟨.hbm, 292, rfl⟩
abbrev main_while0b_c_68 : Ref sig .tc := ⟨.hbm, 293, rfl⟩
abbrev main_while0b_v160 : Ref sig .tc := ⟨.hbm, 294, rfl⟩
abbrev main_while0b_v161 : Ref sig .tc := ⟨.hbm, 295, rfl⟩
abbrev main_while0b_c_69 : Ref sig .tc := ⟨.hbm, 296, rfl⟩
abbrev main_while0b_v162 : Ref sig .tc := ⟨.hbm, 297, rfl⟩
abbrev main_while0b_v163 : Ref sig .tc := ⟨.hbm, 298, rfl⟩
abbrev main_while0b_v164 : Ref sig .tc := ⟨.hbm, 299, rfl⟩
abbrev main_while0b_c_70 : Ref sig .tc := ⟨.hbm, 300, rfl⟩
abbrev main_while0b_v165 : Ref sig .tc := ⟨.hbm, 301, rfl⟩
abbrev main_while0b_v166 : Ref sig .tc := ⟨.hbm, 302, rfl⟩
abbrev main_while0b_v167 : Ref sig .tc := ⟨.hbm, 303, rfl⟩
abbrev main_while0b_c_71 : Ref sig .tc := ⟨.hbm, 304, rfl⟩
abbrev main_while0b_v168 : Ref sig .tc := ⟨.hbm, 305, rfl⟩
abbrev main_while0b_v169 : Ref sig .tc := ⟨.hbm, 306, rfl⟩
abbrev main_while0b_v170 : Ref sig .tc := ⟨.hbm, 307, rfl⟩
abbrev main_while0b_c_72 : Ref sig .tc := ⟨.hbm, 308, rfl⟩
abbrev main_while0b_c_73 : Ref sig .tc := ⟨.hbm, 309, rfl⟩
abbrev main_while0b_call9_v0 : Ref sig .tc := ⟨.hbm, 310, rfl⟩
abbrev main_while0b_call9_v1 : Ref sig .tc := ⟨.hbm, 311, rfl⟩
abbrev main_while0b_call9_v2 : Ref sig .tc := ⟨.hbm, 312, rfl⟩
abbrev main_while0b_call9_v3 : Ref sig .tc := ⟨.hbm, 313, rfl⟩
abbrev main_while0b_call9_v4 : Ref sig .tc := ⟨.hbm, 314, rfl⟩
abbrev main_while0b_v171 : Ref sig .tc := ⟨.hbm, 315, rfl⟩
abbrev main_while0b_c_74 : Ref sig .tc := ⟨.hbm, 316, rfl⟩
abbrev main_while0b_c_75 : Ref sig .tc := ⟨.hbm, 317, rfl⟩
abbrev main_while0b_call10_v0 : Ref sig .tc := ⟨.hbm, 318, rfl⟩
abbrev main_while0b_call10_v1 : Ref sig .tc := ⟨.hbm, 319, rfl⟩
abbrev main_while0b_call10_v2 : Ref sig .tc := ⟨.hbm, 320, rfl⟩
abbrev main_while0b_call10_v3 : Ref sig .tc := ⟨.hbm, 321, rfl⟩
abbrev main_while0b_call10_v4 : Ref sig .tc := ⟨.hbm, 322, rfl⟩
abbrev main_while0b_v172 : Ref sig .tc := ⟨.hbm, 323, rfl⟩
abbrev main_while0b_c_76 : Ref sig .tc := ⟨.hbm, 324, rfl⟩
abbrev main_while0b_v173 : Ref sig .tc := ⟨.hbm, 325, rfl⟩
abbrev main_while0b_v174 : Ref sig .tc := ⟨.hbm, 326, rfl⟩
abbrev main_while0b_c_77 : Ref sig .tc := ⟨.hbm, 327, rfl⟩
abbrev main_while0b_v175 : Ref sig .tc := ⟨.hbm, 328, rfl⟩
abbrev main_while0b_v176 : Ref sig .tc := ⟨.hbm, 329, rfl⟩
abbrev main_while0b_v177 : Ref sig .tc := ⟨.hbm, 330, rfl⟩
abbrev main_while0b_c_78 : Ref sig .tc := ⟨.hbm, 331, rfl⟩
abbrev main_while0b_v178 : Ref sig .tc := ⟨.hbm, 332, rfl⟩
abbrev main_while0b_v179 : Ref sig .tc := ⟨.hbm, 333, rfl⟩
abbrev main_while0b_c_79 : Ref sig .tc := ⟨.hbm, 334, rfl⟩
abbrev main_while0b_v180 : Ref sig .tc := ⟨.hbm, 335, rfl⟩
abbrev main_while0b_v181 : Ref sig .tc := ⟨.hbm, 336, rfl⟩
abbrev main_while0b_v182 : Ref sig .tc := ⟨.hbm, 337, rfl⟩
abbrev main_while0b_c_80 : Ref sig .tc := ⟨.hbm, 338, rfl⟩
abbrev main_while0b_v183 : Ref sig .tc := ⟨.hbm, 339, rfl⟩
abbrev main_while0b_v184 : Ref sig .tc := ⟨.hbm, 340, rfl⟩
abbrev main_while0b_c_81 : Ref sig .tc := ⟨.hbm, 341, rfl⟩
abbrev main_while0b_v185 : Ref sig .tc := ⟨.hbm, 342, rfl⟩
abbrev main_while0b_v186 : Ref sig .tc := ⟨.hbm, 343, rfl⟩
abbrev main_while0b_v187 : Ref sig .tc := ⟨.hbm, 344, rfl⟩
abbrev main_while0b_v188 : Ref sig .tc := ⟨.hbm, 345, rfl⟩
abbrev main_while0b_v189 : Ref sig .tc := ⟨.hbm, 346, rfl⟩
abbrev main_while0b_v190 : Ref sig .tc := ⟨.hbm, 347, rfl⟩
abbrev main_while0b_v191 : Ref sig .tc := ⟨.hbm, 348, rfl⟩
abbrev main_while0b_v192 : Ref sig .tc := ⟨.hbm, 349, rfl⟩
abbrev main_while0b_v193 : Ref sig .tc := ⟨.hbm, 350, rfl⟩
abbrev main_while0b_cst_82 : Ref sig .tc := ⟨.hbm, 351, rfl⟩
abbrev main_while0b_v194 : Ref sig .tc := ⟨.hbm, 352, rfl⟩
abbrev main_while0b_v195 : Ref sig .tc := ⟨.hbm, 353, rfl⟩
abbrev main_while0b_v196 : Ref sig .tc := ⟨.hbm, 354, rfl⟩
abbrev main_while0b_v197 : Ref sig .tc := ⟨.hbm, 355, rfl⟩
abbrev main_while0b_call11_v0 : Ref sig .tc := ⟨.hbm, 356, rfl⟩
abbrev main_while0b_v198 : Ref sig .tc := ⟨.hbm, 357, rfl⟩
abbrev main_while0b_c_83 : Ref sig .tc := ⟨.hbm, 358, rfl⟩
abbrev main_while0b_v199 : Ref sig .tc := ⟨.hbm, 359, rfl⟩
abbrev main_while0b_v200 : Ref sig .tc := ⟨.hbm, 360, rfl⟩
abbrev main_while0b_c_84 : Ref sig .tc := ⟨.hbm, 361, rfl⟩
abbrev main_while0b_v201 : Ref sig .tc := ⟨.hbm, 362, rfl⟩
abbrev main_while0b_v202 : Ref sig .tc := ⟨.hbm, 363, rfl⟩
abbrev main_while0b_v203 : Ref sig .tc := ⟨.hbm, 364, rfl⟩
abbrev main_while0b_c_85 : Ref sig .tc := ⟨.hbm, 365, rfl⟩
abbrev main_while0b_v204 : Ref sig .tc := ⟨.hbm, 366, rfl⟩
abbrev main_while0b_v205 : Ref sig .tc := ⟨.hbm, 367, rfl⟩
abbrev main_while0b_c_86 : Ref sig .tc := ⟨.hbm, 368, rfl⟩
abbrev main_while0b_v206 : Ref sig .tc := ⟨.hbm, 369, rfl⟩
abbrev main_while0b_v207 : Ref sig .tc := ⟨.hbm, 370, rfl⟩
abbrev main_while0b_v208 : Ref sig .tc := ⟨.hbm, 371, rfl⟩
abbrev main_while0b_c_87 : Ref sig .tc := ⟨.hbm, 372, rfl⟩
abbrev main_while0b_v209 : Ref sig .tc := ⟨.hbm, 373, rfl⟩
abbrev main_while0b_v210 : Ref sig .tc := ⟨.hbm, 374, rfl⟩
abbrev main_while0b_c_88 : Ref sig .tc := ⟨.hbm, 375, rfl⟩
abbrev main_while0b_v211 : Ref sig .tc := ⟨.hbm, 376, rfl⟩
abbrev main_while0b_v212 : Ref sig .tc := ⟨.hbm, 377, rfl⟩
abbrev main_while0b_v213 : Ref sig .tc := ⟨.hbm, 378, rfl⟩
abbrev main_while0b_v214 : Ref sig .tc := ⟨.hbm, 379, rfl⟩
abbrev main_while0b_v215 : Ref sig .tc := ⟨.hbm, 380, rfl⟩
abbrev main_while0b_v216 : Ref sig .tc := ⟨.hbm, 381, rfl⟩
abbrev main_while0b_v217 : Ref sig .tc := ⟨.hbm, 382, rfl⟩
abbrev main_while0b_v218 : Ref sig .tc := ⟨.hbm, 383, rfl⟩
abbrev main_while0b_c_89 : Ref sig .tc := ⟨.hbm, 384, rfl⟩
abbrev main_while0b_v219 : Ref sig .tc := ⟨.hbm, 385, rfl⟩
abbrev main_while0b_v220 : Ref sig .tc := ⟨.hbm, 386, rfl⟩
abbrev main_while0b_c_90 : Ref sig .tc := ⟨.hbm, 387, rfl⟩
abbrev main_while0b_v221 : Ref sig .tc := ⟨.hbm, 388, rfl⟩
abbrev main_while0b_v222 : Ref sig .tc := ⟨.hbm, 389, rfl⟩
abbrev main_while0b_c_91 : Ref sig .tc := ⟨.hbm, 390, rfl⟩
abbrev main_while0b_v223 : Ref sig .tc := ⟨.hbm, 391, rfl⟩
abbrev main_while0b_v224 : Ref sig .tc := ⟨.hbm, 392, rfl⟩
abbrev main_while0b_c_92 : Ref sig .tc := ⟨.hbm, 393, rfl⟩
abbrev main_while0b_v225 : Ref sig .tc := ⟨.hbm, 394, rfl⟩
abbrev main_while0b_v226 : Ref sig .tc := ⟨.hbm, 395, rfl⟩
abbrev main_while0b_v227 : Ref sig .tc := ⟨.hbm, 396, rfl⟩
abbrev main_while0b_c_93 : Ref sig .tc := ⟨.hbm, 397, rfl⟩
abbrev main_while0b_v228 : Ref sig .tc := ⟨.hbm, 398, rfl⟩
abbrev main_while0b_v229 : Ref sig .tc := ⟨.hbm, 399, rfl⟩
abbrev main_while0b_v230 : Ref sig .tc := ⟨.hbm, 400, rfl⟩
abbrev main_while0b_c_94 : Ref sig .tc := ⟨.hbm, 401, rfl⟩
abbrev main_while0b_v231 : Ref sig .tc := ⟨.hbm, 402, rfl⟩
abbrev main_while0b_v232 : Ref sig .tc := ⟨.hbm, 403, rfl⟩
abbrev main_while0b_v233 : Ref sig .tc := ⟨.hbm, 404, rfl⟩
abbrev main_while0b_c_95 : Ref sig .tc := ⟨.hbm, 405, rfl⟩
abbrev main_while0b_c_96 : Ref sig .tc := ⟨.hbm, 406, rfl⟩
abbrev main_while0b_call12_v0 : Ref sig .tc := ⟨.hbm, 407, rfl⟩
abbrev main_while0b_call12_v1 : Ref sig .tc := ⟨.hbm, 408, rfl⟩
abbrev main_while0b_call12_v2 : Ref sig .tc := ⟨.hbm, 409, rfl⟩
abbrev main_while0b_call12_v3 : Ref sig .tc := ⟨.hbm, 410, rfl⟩
abbrev main_while0b_call12_v4 : Ref sig .tc := ⟨.hbm, 411, rfl⟩
abbrev main_while0b_v234 : Ref sig .tc := ⟨.hbm, 412, rfl⟩
abbrev main_while0b_c_97 : Ref sig .tc := ⟨.hbm, 413, rfl⟩
abbrev main_while0b_c_98 : Ref sig .tc := ⟨.hbm, 414, rfl⟩
abbrev main_while0b_call13_v0 : Ref sig .tc := ⟨.hbm, 415, rfl⟩
abbrev main_while0b_call13_v1 : Ref sig .tc := ⟨.hbm, 416, rfl⟩
abbrev main_while0b_call13_v2 : Ref sig .tc := ⟨.hbm, 417, rfl⟩
abbrev main_while0b_call13_v3 : Ref sig .tc := ⟨.hbm, 418, rfl⟩
abbrev main_while0b_call13_v4 : Ref sig .tc := ⟨.hbm, 419, rfl⟩
abbrev main_while0b_v235 : Ref sig .tc := ⟨.hbm, 420, rfl⟩
abbrev main_while0b_c_99 : Ref sig .tc := ⟨.hbm, 421, rfl⟩
abbrev main_while0b_v236 : Ref sig .tc := ⟨.hbm, 422, rfl⟩
abbrev main_while0b_v237 : Ref sig .tc := ⟨.hbm, 423, rfl⟩
abbrev main_while0b_c_100 : Ref sig .tc := ⟨.hbm, 424, rfl⟩
abbrev main_while0b_v238 : Ref sig .tc := ⟨.hbm, 425, rfl⟩
abbrev main_while0b_v239 : Ref sig .tc := ⟨.hbm, 426, rfl⟩
abbrev main_while0b_v240 : Ref sig .tc := ⟨.hbm, 427, rfl⟩
abbrev main_while0b_c_101 : Ref sig .tc := ⟨.hbm, 428, rfl⟩
abbrev main_while0b_v241 : Ref sig .tc := ⟨.hbm, 429, rfl⟩
abbrev main_while0b_v242 : Ref sig .tc := ⟨.hbm, 430, rfl⟩
abbrev main_while0b_c_102 : Ref sig .tc := ⟨.hbm, 431, rfl⟩
abbrev main_while0b_v243 : Ref sig .tc := ⟨.hbm, 432, rfl⟩
abbrev main_while0b_v244 : Ref sig .tc := ⟨.hbm, 433, rfl⟩
abbrev main_while0b_v245 : Ref sig .tc := ⟨.hbm, 434, rfl⟩
abbrev main_while0b_c_103 : Ref sig .tc := ⟨.hbm, 435, rfl⟩
abbrev main_while0b_v246 : Ref sig .tc := ⟨.hbm, 436, rfl⟩
abbrev main_while0b_v247 : Ref sig .tc := ⟨.hbm, 437, rfl⟩
abbrev main_while0b_c_104 : Ref sig .tc := ⟨.hbm, 438, rfl⟩
abbrev main_while0b_v248 : Ref sig .tc := ⟨.hbm, 439, rfl⟩
abbrev main_while0b_v249 : Ref sig .tc := ⟨.hbm, 440, rfl⟩
abbrev main_while0b_v250 : Ref sig .tc := ⟨.hbm, 441, rfl⟩
abbrev main_while0b_v251 : Ref sig .tc := ⟨.hbm, 442, rfl⟩
abbrev main_while0b_v252 : Ref sig .tc := ⟨.hbm, 443, rfl⟩
abbrev main_while0b_v253 : Ref sig .tc := ⟨.hbm, 444, rfl⟩
abbrev main_while0b_v254 : Ref sig .tc := ⟨.hbm, 445, rfl⟩
abbrev main_while0b_v255 : Ref sig .tc := ⟨.hbm, 446, rfl⟩
abbrev main_while0b_v256 : Ref sig .tc := ⟨.hbm, 447, rfl⟩
abbrev main_while0b_cst_105 : Ref sig .tc := ⟨.hbm, 448, rfl⟩
abbrev main_while0b_v257 : Ref sig .tc := ⟨.hbm, 449, rfl⟩
abbrev main_while0b_v258 : Ref sig .tc := ⟨.hbm, 450, rfl⟩
abbrev main_while0b_v259 : Ref sig .tc := ⟨.hbm, 451, rfl⟩
abbrev main_while0b_v260 : Ref sig .tc := ⟨.hbm, 452, rfl⟩
abbrev main_while0b_call14_v0 : Ref sig .tc := ⟨.hbm, 453, rfl⟩
abbrev main_while0b_v261 : Ref sig .tc := ⟨.hbm, 454, rfl⟩
abbrev main_while0b_c_106 : Ref sig .tc := ⟨.hbm, 455, rfl⟩
abbrev main_while0b_v262 : Ref sig .tc := ⟨.hbm, 456, rfl⟩
abbrev main_while0b_v263 : Ref sig .tc := ⟨.hbm, 457, rfl⟩
abbrev main_while0b_c_107 : Ref sig .tc := ⟨.hbm, 458, rfl⟩
abbrev main_while0b_v264 : Ref sig .tc := ⟨.hbm, 459, rfl⟩
abbrev main_while0b_v265 : Ref sig .tc := ⟨.hbm, 460, rfl⟩
abbrev main_while0b_v266 : Ref sig .tc := ⟨.hbm, 461, rfl⟩
abbrev main_while0b_c_108 : Ref sig .tc := ⟨.hbm, 462, rfl⟩
abbrev main_while0b_v267 : Ref sig .tc := ⟨.hbm, 463, rfl⟩
abbrev main_while0b_v268 : Ref sig .tc := ⟨.hbm, 464, rfl⟩
abbrev main_while0b_c_109 : Ref sig .tc := ⟨.hbm, 465, rfl⟩
abbrev main_while0b_v269 : Ref sig .tc := ⟨.hbm, 466, rfl⟩
abbrev main_while0b_v270 : Ref sig .tc := ⟨.hbm, 467, rfl⟩
abbrev main_while0b_v271 : Ref sig .tc := ⟨.hbm, 468, rfl⟩
abbrev main_while0b_c_110 : Ref sig .tc := ⟨.hbm, 469, rfl⟩
abbrev main_while0b_v272 : Ref sig .tc := ⟨.hbm, 470, rfl⟩
abbrev main_while0b_v273 : Ref sig .tc := ⟨.hbm, 471, rfl⟩
abbrev main_while0b_c_111 : Ref sig .tc := ⟨.hbm, 472, rfl⟩
abbrev main_while0b_v274 : Ref sig .tc := ⟨.hbm, 473, rfl⟩
abbrev main_while0b_v275 : Ref sig .tc := ⟨.hbm, 474, rfl⟩
abbrev main_while0b_v276 : Ref sig .tc := ⟨.hbm, 475, rfl⟩
abbrev main_while0b_v277 : Ref sig .tc := ⟨.hbm, 476, rfl⟩
abbrev main_while0b_v278 : Ref sig .tc := ⟨.hbm, 477, rfl⟩
abbrev main_while0b_v279 : Ref sig .tc := ⟨.hbm, 478, rfl⟩
abbrev main_while0b_v280 : Ref sig .tc := ⟨.hbm, 479, rfl⟩
abbrev main_while0b_v281 : Ref sig .tc := ⟨.hbm, 480, rfl⟩
abbrev main_while0b_c_112 : Ref sig .tc := ⟨.hbm, 481, rfl⟩
abbrev main_while0b_v282 : Ref sig .tc := ⟨.hbm, 482, rfl⟩
abbrev main_v4 : Ref sig .tc := ⟨.hbm, 483, rfl⟩
abbrev main_cst : Ref sig .tc := ⟨.hbm, 484, rfl⟩
abbrev main_v5 : Ref sig .tc := ⟨.hbm, 485, rfl⟩

abbrev nD : Nat := 1
abbrev τ : Topo := Topo.v7x

variable {F : FTy → Type} [FloatOps F]

abbrev main_while0_count : Scf.Loop 32 := ⟨0#32, 768#32, 1#32⟩
-- ==== Proof.RefFrame.lean ====
/-
  The reference's run at its arguments: no operation of the program writes an argument array, so the generated fold
  (`Cert.ReferenceIdeal.Value.run_fold`) leaves both as they were launched; and the array of items, which the loop
  carries unchanged, is at every trip what the program held before the loop.
-/
module

public import proofs.«01_k».proof.Proof.Gen.ReferenceIdeal.Run
public import Idealize.ShloMosaic.Lib.Quiescent

@[expose] public section

set_option maxRecDepth 4096

noncomputable section

namespace Cert.ReferenceIdeal.Value

open Cert.ReferenceIdeal Cert.ReferenceIdeal.Gen Idealize.ShloMosaic Idealize.ShloMosaic.TcCoe Idealize.SL.Sem
open Idealize.ShloMosaic.StableHlo

variable {F : FTy → Type} [FloatOps F]

/-- One round of the body leaves the first argument as it was. -/
theorem body_arg0 (V : Valuation τ sig (Elt F)) :
    afterL bodyI V (Proc.devRef .tc main_arg0) = V (Proc.devRef .tc main_arg0) := by
  simp only [afterL_cons, afterL_nil]
  rw [after_of_writes_sub _ _ while0Ops0_30_writes (by decide +kernel),
    after_of_writes_sub _ _ while0Ops0_29_writes (by decide +kernel),
    after_of_writes_sub _ _ while0Ops0_28_writes (by decide +kernel),
    after_of_writes_sub _ _ while0Ops0_27_writes (by decide +kernel),
    after_of_writes_sub _ _ while0Ops0_26_writes (by decide +kernel),
    after_of_writes_sub _ _ while0Ops0_25_writes (by decide +kernel),
    after_of_writes_sub _ _ while0Ops0_24_writes (by decide +kernel),
    after_of_writes_sub _ _ while0Ops0_23_writes (by decide +kernel),
    after_of_writes_sub _ _ while0Ops0_22_writes (by decide +kernel),
    after_of_writes_sub _ _ while0Ops0_21_writes (by decide +kernel),
    after_of_writes_sub _ _ while0Ops0_20_writes (by decide +kernel),
    after_of_writes_sub _ _ while0Ops0_19_writes (by decide +kernel),
    after_of_writes_sub _ _ while0Ops0_18_writes (by decide +kernel),
    after_of_writes_sub _ _ while0Ops0_17_writes (by decide +kernel),
    after_of_writes_sub _ _ while0Ops0_16_writes (by decide +kernel),
    after_of_writes_sub _ _ while0Ops0_15_writes (by decide +kernel),
    after_of_writes_sub _ _ while0Ops0_14_writes (by decide +kernel),
    after_of_writes_sub _ _ while0Ops0_13_writes (by decide +kernel),
    after_of_writes_sub _ _ while0Ops0_12_writes (by decide +kernel),
    after_of_writes_sub _ _ while0Ops0_11_writes (by decide +kernel),
    after_of_writes_sub _ _ while0Ops0_10_writes (by decide +kernel),
    after_of_writes_sub _ _ while0Ops0_9_writes (by decide +kernel),
    after_of_writes_sub _ _ while0Ops0_8_writes (by decide +kernel),
    after_of_writes_sub _ _ while0Ops0_7_writes (by decide +kernel),
    after_of_writes_sub _ _ while0Ops0_6_writes (by decide +kernel),
    after_of_writes_sub _ _ while0Ops0_5_writes (by decide +kernel),
    after_of_writes_sub _ _ while0Ops0_4_writes (by decide +kernel),
    after_of_writes_sub _ _ while0Ops0_3_writes (by decide +kernel),
    after_of_writes_sub _ _ while0Ops0_2_writes (by decide +kernel),
    after_of_writes_sub _ _ while0Ops0_1_writes (by decide +kernel),
    after_of_writes_sub _ _ while0Ops0_writes (by decide +kernel)]

/-- One round of the body leaves the second argument as it was. -/
theorem body_arg1 (V : Valuation τ sig (Elt F)) :
    afterL bodyI V (Proc.devRef .tc main_arg1) = V (Proc.devRef .tc main_arg1) := by
  simp only [afterL_cons, afterL_nil]
  rw [after_of_writes_sub _ _ while0Ops0_30_writes (by decide +kernel),
    after_of_writes_sub _ _ while0Ops0_29_writes (by decide +kernel),
    after_of_writes_sub _ _ while0Ops0_28_writes (by decide +kernel),
    after_of_writes_sub _ _ while0Ops0_27_writes (by decide +kernel),
    after_of_writes_sub _ _ while0Ops0_26_writes (by decide +kernel),
    after_of_writes_sub _ _ while0Ops0_25_writes (by decide +kernel),
    after_of_writes_sub _ _ while0Ops0_24_writes (by decide +kernel),
    after_of_writes_sub _ _ while0Ops0_23_writes (by decide +kernel),
    after_of_writes_sub _ _ while0Ops0_22_writes (by decide +kernel),
    after_of_writes_sub _ _ while0Ops0_21_writes (by decide +kernel),
    after_of_writes_sub _ _ while0Ops0_20_writes (by decide +kernel),
    after_of_writes_sub _ _ while0Ops0_19_writes (by decide +kernel),
    after_of_writes_sub _ _ while0Ops0_18_writes (by decide +kernel),
    after_of_writes_sub _ _ while0Ops0_17_writes (by decide +kernel),
    after_of_writes_sub _ _ while0Ops0_16_writes (by decide +kernel),
    after_of_writes_sub _ _ while0Ops0_15_writes (by decide +kernel),
    after_of_writes_sub _ _ while0Ops0_14_writes (by decide +kernel),
    after_of_writes_sub _ _ while0Ops0_13_writes (by decide +kernel),
    after_of_writes_sub _ _ while0Ops0_12_writes (by decide +kernel),
    after_of_writes_sub _ _ while0Ops0_11_writes (by decide +kernel),
    after_of_writes_sub _ _ while0Ops0_10_writes (by decide +kernel),
    after_of_writes_sub _ _ while0Ops0_9_writes (by decide +kernel),
    after_of_writes_sub _ _ while0Ops0_8_writes (by decide +kernel),
    after_of_writes_sub _ _ while0Ops0_7_writes (by decide +kernel),
    after_of_writes_sub _ _ while0Ops0_6_writes (by decide +kernel),
    after_of_writes_sub _ _ while0Ops0_5_writes (by decide +kernel),
    after_of_writes_sub _ _ while0Ops0_4_writes (by decide +kernel),
    after_of_writes_sub _ _ while0Ops0_3_writes (by decide +kernel),
    after_of_writes_sub _ _ while0Ops0_2_writes (by decide +kernel),
    after_of_writes_sub _ _ while0Ops0_1_writes (by decide +kernel),
    after_of_writes_sub _ _ while0Ops0_writes (by decide +kernel)]

/-- One round of the body leaves the array of items as it was. -/
theorem body_items (V : Valuation τ sig (Elt F)) :
    afterL bodyI V (Proc.devRef .tc main_v3_0) = V (Proc.devRef .tc main_v3_0) := by
  simp only [afterL_cons, afterL_nil]
  rw [after_of_writes_sub _ _ while0Ops0_30_writes (by decide +kernel),
    after_of_writes_sub _ _ while0Ops0_29_writes (by decide +kernel),
    after_of_writes_sub _ _ while0Ops0_28_writes (by decide +kernel),
    after_of_writes_sub _ _ while0Ops0_27_writes (by decide +kernel),
    after_of_writes_sub _ _ while0Ops0_26_writes (by decide +kernel),
    after_of_writes_sub _ _ while0Ops0_25_writes (by decide +kernel),
    after_of_writes_sub _ _ while0Ops0_24_writes (by decide +kernel),
    after_of_writes_sub _ _ while0Ops0_23_writes (by decide +kernel),
    after_of_writes_sub _ _ while0Ops0_22_writes (by decide +kernel),
    after_of_writes_sub _ _ while0Ops0_21_writes (by decide +kernel),
    after_of_writes_sub _ _ while0Ops0_20_writes (by decide +kernel),
    after_of_writes_sub _ _ while0Ops0_19_writes (by decide +kernel),
    after_of_writes_sub _ _ while0Ops0_18_writes (by decide +kernel),
    after_of_writes_sub _ _ while0Ops0_17_writes (by decide +kernel),
    after_of_writes_sub _ _ while0Ops0_16_writes (by decide +kernel),
    after_of_writes_sub _ _ while0Ops0_15_writes (by decide +kernel),
    after_of_writes_sub _ _ while0Ops0_14_writes (by decide +kernel),
    after_of_writes_sub _ _ while0Ops0_13_writes (by decide +kernel),
    after_of_writes_sub _ _ while0Ops0_12_writes (by decide +kernel),
    after_of_writes_sub _ _ while0Ops0_11_writes (by decide +kernel),
    after_of_writes_sub _ _ while0Ops0_10_writes (by decide +kernel),
    after_of_writes_sub _ _ while0Ops0_9_writes (by decide +kernel),
    after_of_writes_sub _ _ while0Ops0_8_writes (by decide +kernel),
    after_of_writes_sub _ _ while0Ops0_7_writes (by decide +kernel),
    after_of_writes_sub _ _ while0Ops0_6_writes (by decide +kernel),
    after_of_writes_sub _ _ while0Ops0_5_writes (by decide +kernel),
    after_of_writes_sub _ _ while0Ops0_4_writes (by decide +kernel),
    after_of_writes_sub _ _ while0Ops0_3_writes (by decide +kernel),
    after_of_writes_sub _ _ while0Ops0_2_writes (by decide +kernel),
    after_of_writes_sub _ _ while0Ops0_1_writes (by decide +kernel),
    after_of_writes_sub _ _ while0Ops0_writes (by decide +kernel)]

/-- Before every trip the first argument is what it was before the loop. -/
theorem atTrip_arg0 (W₀ : Dev nD → Valuation τ sig (Elt F)) (c : Dev nD) : ∀ k,
    atTrip condOps bodyI W₀ k c (Proc.devRef .tc main_arg0) = W₀ c (Proc.devRef .tc main_arg0)
  | 0 => rfl
  | k + 1 => by
    rw [atTrip_succ, body_arg0, after_of_writes_sub _ _ condOps_writes (by decide +kernel)]
    exact atTrip_arg0 W₀ c k

/-- Before every trip the second argument is what it was before the loop. -/
theorem atTrip_arg1 (W₀ : Dev nD → Valuation τ sig (Elt F)) (c : Dev nD) : ∀ k,
    atTrip condOps bodyI W₀ k c (Proc.devRef .tc main_arg1) = W₀ c (Proc.devRef .tc main_arg1)
  | 0 => rfl
  | k + 1 => by
    rw [atTrip_succ, body_arg1, after_of_writes_sub _ _ condOps_writes (by decide +kernel)]
    exact atTrip_arg1 W₀ c k

/-- Before every trip the array of items is what it was before the loop. -/
theorem atTrip_items (W₀ : Dev nD → Valuation τ sig (Elt F)) (c : Dev nD) : ∀ k,
    atTrip condOps bodyI W₀ k c (Proc.devRef .tc main_v3_0) = W₀ c (Proc.devRef .tc main_v3_0)
  | 0 => rfl
  | k + 1 => by
    rw [atTrip_succ, body_items, after_of_writes_sub _ _ condOps_writes (by decide +kernel)]
    exact atTrip_items W₀ c k

variable (m : (ℓ : Loc nD τ sig) → Buf (Elt F) ℓ) (ρ : Dev nD → PrngReg)

/-- At the program's end the first argument is as launched. -/
theorem final_arg0 (c : Dev nD) :
    finalContents condOps preI bodyI postI 768 m c (Proc.devRef .tc main_arg0) = m ((c.tc : Thread nD τ).loc main_arg0) := by
  simp only [afterL_cons, afterL_nil]
  rw [after_of_writes_sub _ _ hostOps0_1_writes (by decide +kernel), after_of_writes_sub _ _ condOps_writes (by decide +kernel),
    atTrip_arg0]
  simp only [entryContents, afterL_cons, afterL_nil]
  rw [after_of_writes_sub _ _ hostOps0_writes (by decide +kernel)]

/-- At the program's end the second argument is as launched. -/
theorem final_arg1 (c : Dev nD) :
    finalContents condOps preI bodyI postI 768 m c (Proc.devRef .tc main_arg1) = m ((c.tc : Thread nD τ).loc main_arg1) := by
  simp only [afterL_cons, afterL_nil]
  rw [after_of_writes_sub _ _ hostOps0_1_writes (by decide +kernel), after_of_writes_sub _ _ condOps_writes (by decide +kernel),
    atTrip_arg1]
  simp only [entryContents, afterL_cons, afterL_nil]
  rw [after_of_writes_sub _ _ hostOps0_writes (by decide +kernel)]

/-- The reference runs to its end with both argument arrays unchanged and every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h c main_arg0 (by decide)).trans (final_arg0 m c),
      (h c main_arg1 (by decide)).trans (final_arg1 m c)⟩,
      Idealize.ShloMosaic.sem_eq_zero_of_no_sems (by decide) r.2⟩)
    (run_fold m ρ)

end Cert.ReferenceIdeal.Value

end
-- ==== Proof.Model.lean ====
/-
  The self-organising map over the real numbers, the common ground of the two programs: 256 nodes of 128 coordinates,
  laid out as a 16 by 16 sheet. One step takes an item `x`, finds the node nearest to it (the first one where several are
  equally near), and moves the node's neighbours on the sheet (not the node itself) towards `x` by the rate `r`.
-/
module

public import proofs.«01_k».proof.Proof.RefFrame
public import Mathlib.Data.EReal.Operations
public import Mathlib.Algebra.BigOperators.Ring.Finset
public import Mathlib.Analysis.Real.Sqrt
public import Mathlib.Data.Fintype.Lattice
public import Mathlib.Tactic.Ring
public import Mathlib.Tactic.Linarith

@[expose] public section

noncomputable section

namespace Som

/-- The nodes' coordinates: node `n`'s coordinate `d`. -/
abbrev Nodes := Fin 256 → Fin 128 → ℝ

/-! ### The first node at which a real function is least -/

/-- Some node's number has the least value. -/
theorem exists_least (f : Fin 256 → ℝ) : ∃ n : ℕ, ∃ h : n < 256, ∀ m, f ⟨n, h⟩ ≤ f m := by
  obtain ⟨n, hn⟩ := Finite.exists_min f
  exact ⟨n.val, n.isLt, hn⟩

open Classical in
/-- The first node at which `f` is least. -/
def best (f : Fin 256 → ℝ) : Fin 256 := ⟨Nat.find (exists_least f), (Nat.find_spec (exists_least f)).1⟩

/-- `f` at the first least node is at most `f` anywhere. -/
theorem best_le (f : Fin 256 → ℝ) (m : Fin 256) : f (best f) ≤ f m := by
  classical exact (Nat.find_spec (exists_least f)).2 m

/-- Every earlier node has a strictly larger value. -/
theorem best_first (f : Fin 256 → ℝ) (m : Fin 256) (h : m < best f) : f (best f) < f m := by
  classical
  have h1 := Nat.find_min (exists_least f) (m := m.val) h
  by_contra hc
  exact h1 ⟨m.isLt, fun k => le_trans (not_lt.mp hc) (best_le f k)⟩

/-- Those two properties say which node it is. -/
theorem best_unique (f : Fin 256 → ℝ) (n : Fin 256) (h : ∀ m, f n ≤ f m) (h' : ∀ m, m < n → f n < f m) : best f = n := by
  rcases lt_trichotomy (best f) n with hl | he | hg
  · exact absurd (best_le f n) (not_le.mpr (h' _ hl))
  · exact he
  · exact absurd (h (best f)) (not_le.mpr (best_first f n hg))

/-- Two functions that order the nodes alike have the same first least node. -/
theorem best_congr (f f' : Fin 256 → ℝ) (h : ∀ n m, f n ≤ f m ↔ f' n ≤ f' m) : best f = best f' :=
  best_unique f _ (fun m => (h _ _).mpr (best_le f' m))
    (fun m hm => lt_of_not_ge fun hc => absurd ((h _ _).mp hc) (not_le.mpr (best_first f' m hm)))

/-! ### The neighbours on the sheet -/

/-- Is there a neighbour of node `b` in direction `k` (right, down, left, up)? -/
def ok (k : Fin 4) (b : Fin 256) : Bool :=
  match k with
  | 0 => decide (b.val % 16 < 15)
  | 1 => decide (b.val / 16 < 15)
  | 2 => decide (0 < b.val % 16)
  | 3 => decide (0 < b.val / 16)

/-- That neighbour, and `b` itself where there is none. -/
def tgt (k : Fin 4) (b : Fin 256) : Fin 256 :=
  if ok k b then
    match k with
    | 0 => b + 1
    | 1 => b + 16
    | 2 => b - 1
    | 3 => b - 16
  else b

/-- Node `n` is node `b`'s neighbour in direction `k`. -/
def hits (k : Fin 4) (b n : Fin 256) : Bool := ok k b && decide (n = tgt k b)

/-- Node `n` is some neighbour of node `b`. -/
def hit (b n : Fin 256) : Bool := hits 0 b n || hits 1 b n || hits 2 b n || hits 3 b n

set_option maxRecDepth 100000 in
/-- Two directions lead to two different neighbours. -/
theorem tgt_ne : ∀ b : Fin 256, ∀ j k : Fin 4, j < k → ok j b = true → ok k b = true → tgt k b ≠ tgt j b := by
  decide +kernel

/-- No node is the neighbour in two directions. -/
theorem hits_false (b n : Fin 256) (j k : Fin 4) (h : j < k) (hj : hits j b n = true) : hits k b n = false := by
  by_contra hc
  have hk : hits k b n = true := by simpa using hc
  simp only [hits, Bool.and_eq_true, decide_eq_true_eq] at hj hk
  exact tgt_ne b j k h hj.1 hk.1 (hk.2.symm.trans hj.2)

/-! ### One step -/

/-- A coordinate moved towards the item. -/
def toward (r x g : ℝ) : ℝ := g + r * (x - g)

/-- The squared distance from node `n` to the item. -/
def dist2 (x : Fin 128 → ℝ) (g : Nodes) (n : Fin 256) : ℝ := ∑ d, (x d - g n d) * (x d - g n d)

/-- The product of node `n` with the item. -/
def dot (x : Fin 128 → ℝ) (g : Nodes) (n : Fin 256) : ℝ := ∑ d, g n d * x d

/-- The squared norm of node `n`. -/
def norm2 (g : Nodes) (n : Fin 256) : ℝ := ∑ d, g n d * g n d

/-- All neighbours of `b` moved at once. -/
def moveAll (r : ℝ) (x : Fin 128 → ℝ) (b : Fin 256) (g : Nodes) : Nodes :=
  fun n d => if hit b n then toward r (x d) (g n d) else g n d

/-- The neighbour in direction `k` moved, and the others kept. -/
def moveOne (r : ℝ) (x : Fin 128 → ℝ) (b : Fin 256) (k : Fin 4) (g : Nodes) : Nodes :=
  fun n d => if hits k b n then toward r (x d) (g n d) else g n d

/-- The four directions one after the other move each neighbour once: the same as all at once. -/
theorem moveOne_four (r : ℝ) (x : Fin 128 → ℝ) (b : Fin 256) (g : Nodes) :
    moveOne r x b 3 (moveOne r x b 2 (moveOne r x b 1 (moveOne r x b 0 g))) = moveAll r x b g := by
  funext n d
  have h := hits_false b n
  simp only [moveOne, moveAll, hit]
  by_cases h0 : hits 0 b n = true
  · have h1 := h 0 1 (by decide) h0
    have h2 := h 0 2 (by decide) h0
    have h3 := h 0 3 (by decide) h0
    simp [h0, h1, h2, h3]
  · by_cases h1 : hits 1 b n = true
    · have h2 := h 1 2 (by decide) h1
      have h3 := h 1 3 (by decide) h1
      simp [h0, h1, h2, h3]
    · by_cases h2 : hits 2 b n = true
      · have h3 := h 2 3 (by decide) h2
        simp [h0, h1, h2, h3]
      · simp [h0, h1, h2]

/-- One step of the map. -/
def step (r : ℝ) (x : Fin 128 → ℝ) (g : Nodes) : Nodes := moveAll r x (best (dist2 x g)) g

/-- The map after the first `s` items of the sequence `xs`. -/
def iter (r : ℝ) (xs : ℕ → Fin 128 → ℝ) (g : Nodes) : ℕ → Nodes
  | 0 => g
  | s + 1 => step r (xs s) (iter r xs g s)

/-! ### The score that the kernel compares, and its running norms -/

/-- The squared distance is the node's squared norm less twice the product, plus the item's own squared norm. -/
theorem dist2_eq (x : Fin 128 → ℝ) (g : Nodes) (n : Fin 256) :
    dist2 x g n = (norm2 g n - 2 * dot x g n) + ∑ d, x d * x d := by
  simp only [dist2, norm2, dot, Finset.mul_sum, ← Finset.sum_sub_distrib, ← Finset.sum_add_distrib]
  exact Finset.sum_congr rfl fun d _ => by ring

/-- The first node of least score is the first nearest node. -/
theorem best_score (x : Fin 128 → ℝ) (g : Nodes) : best (fun n => norm2 g n - 2 * dot x g n) = best (dist2 x g) :=
  best_congr _ _ fun n m => by simp only [dist2_eq]; exact (add_le_add_iff_right _).symm

/-- The first node of least distance is the first node of least squared distance. -/
theorem best_sqrt (x : Fin 128 → ℝ) (g : Nodes) : best (fun n => Real.sqrt (dist2 x g n)) = best (dist2 x g) :=
  best_congr _ _ fun n m => Real.sqrt_le_sqrt_iff (Finset.sum_nonneg fun d _ => mul_self_nonneg _)

/-- The squared norm of a moved node, from its squared norm and its product with the item before. -/
theorem norm2_toward (r : ℝ) (x : Fin 128 → ℝ) (g : Nodes) (n : Fin 256) :
    ∑ d, toward r (x d) (g n d) * toward r (x d) (g n d)
      = (1 - r) ^ 2 * norm2 g n + 2 * r * (1 - r) * dot x g n + r ^ 2 * ∑ d, x d * x d := by
  simp only [norm2, dot, toward, Finset.mul_sum, ← Finset.sum_add_distrib]
  exact Finset.sum_congr rfl fun d _ => by ring

/-- The squared norms after all neighbours moved. -/
theorem norm2_moveAll (r : ℝ) (x : Fin 128 → ℝ) (b : Fin 256) (g : Nodes) (n : Fin 256) :
    norm2 (moveAll r x b g) n = if hit b n
      then (1 - r) ^ 2 * norm2 g n + 2 * r * (1 - r) * dot x g n + r ^ 2 * ∑ d, x d * x d else norm2 g n := by
  cases h : hit b n
  · simp [norm2, moveAll, h]
  · rw [if_pos rfl, ← norm2_toward]
    simp [norm2, moveAll, h]

/-! ### Reals among the extended reals -/

/-- A sum of reals, among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The least of finitely many reals, starting from infinity, is the value at the first least node. -/
theorem fold_min (f : Fin 256 → ℝ) :
    (Finset.univ : Finset (Fin 256)).fold min (⊤ : EReal) (fun n => (f n : EReal)) = (f (best f) : EReal) := by
  apply le_antisymm
  · exact (Finset.fold_min_le _).mpr (Or.inr ⟨best f, Finset.mem_univ _, le_refl _⟩)
  · exact (Finset.le_fold_min _).mpr ⟨le_top, fun m _ => EReal.coe_le_coe_iff.mpr (best_le f m)⟩

end Som

end
-- ==== Proof.KernelStep.lean ====
/-
  One pass of the kernel's loop over real numbers: what its stored values are when the node buffer holds real coordinates
  `G b n d`, the norm buffer their squared norms, and the item read is real.
-/
module

public import proofs.«01_k».proof.Proof.Model
public import proofs.«01_k».proof.Proof.Gen.KernelIdeal.Value
public import Idealize.ShloMosaic.Lib.Pointwise

@[expose] public section

noncomputable section

open Idealize.ShloMosaic

namespace Som

/-- The rate, the binary32 number nearest one hundredth. -/
def rate : ℝ := 5368709 / 2 ^ 29

/-- The pattern that both programs multiply by denotes the rate. -/
theorem ofBits_rate : Ideal.ofBits .f32 0x3C23D70A#32 = (rate : EReal) := by
  simp only [Ideal.ofBits, Ideal.ieee, rate]
  simp
  rw [← EReal.coe_mul]
  norm_num

/-- The pattern of two. -/
theorem ofBits_two : Ideal.ofBits .f32 0x40000000#32 = ((2 : ℝ) : EReal) := by
  simp [Ideal.ofBits, Ideal.ieee]
  rw [← EReal.coe_mul]
  norm_num

/-- The pattern of infinity. -/
theorem ofBits_inf : Ideal.ofBits .f32 0x7F800000#32 = (⊤ : EReal) := by
  simp [Ideal.ofBits, Ideal.ieee]

/-- Words below `2^31` as signed integers. -/
theorem toInt_ofNat_fin (n : Fin 256) : (BitVec.ofNat 32 n.val).toInt = (n.val : ℤ) := by
  have h := n.isLt
  rw [BitVec.toInt_ofNat']
  simp only [Int.bmod]
  omega

/-- The signed minimum of two words is the minimum of the numbers. -/
theorem toInt_minsi (a b : BitVec 32) : (IntOp.minsi a b).toInt = min a.toInt b.toInt := by
  simp only [IntOp.minsi, BitVec.slt, decide_eq_true_eq]
  split <;> omega

/-- The least word among the numbers of the marked nodes, and 256 at the others, is the first marked node. -/
theorem fold_minsi (P : Fin 256 → Prop) [DecidablePred P] (B : Fin 256) (hB : P B) (hlt : ∀ m, m < B → ¬ P m) :
    (Finset.univ : Finset (Fin 256)).fold IntOp.minsi (2147483647#32)
      (fun n => if P n then BitVec.ofNat 32 n.val else 256#32) = BitVec.ofNat 32 B.val := by
  apply BitVec.toInt_inj.mp
  rw [← Finset.fold_hom (op := IntOp.minsi) (op' := min) (m := BitVec.toInt) toInt_minsi, toInt_ofNat_fin]
  have hval : ∀ n : Fin 256, ((if P n then BitVec.ofNat 32 n.val else 256#32).toInt) = if P n then (n.val : ℤ) else 256 := by
    intro n
    split
    · exact toInt_ofNat_fin n
    · rfl
  simp only [hval]
  have hb := B.isLt
  apply le_antisymm
  · exact (Finset.fold_min_le _).mpr (Or.inr ⟨B, Finset.mem_univ _, by simp [hB]⟩)
  · refine (Finset.le_fold_min _).mpr ⟨?_, fun n _ => ?_⟩
    · show (B.val : ℤ) ≤ 2147483647
      omega
    · by_cases hn : P n
      · have : ¬ n < B := fun h => hlt n h hn
        have h2 : B.val ≤ n.val := not_lt.mp this
        simp only [hn, if_true]
        omega
      · simp only [hn, if_false]
        omega

end Som

namespace Cert.KernelIdeal.Gen

open Som

local instance : Facts := facts

/-- Each lane's own number along the nodes. -/
abbrev lanes : IVec S4x256 32 := iota .tc S4x256 32 [1] iota_S4x256_d1_w32

/-- Real coordinates as the contents of the node buffer. -/
def gridE (G : Fin 4 → Nodes) : Vec Ideal S4x256x128 .f32 := fun i => ((G (i 0) (i 1) (i 2) : ℝ) : EReal)

/-- Their squared norms as the contents of the norm buffer. -/
def normE (G : Fin 4 → Nodes) : Vec Ideal S4x256 .f32 := fun i => ((norm2 (G (i 0)) (i 1) : ℝ) : EReal)

/-- The item as it is read: one row per batch element. -/
def itemE (X : Fin 4 → Fin 128 → ℝ) : Vec Ideal S1x4x128 .f32 := fun i => ((X (i 1) (i 2) : ℝ) : EReal)

theorem gridE_apply (G : Fin 4 → Nodes) (b : Fin 4) (n : Fin 256) (d : Fin 128) :
    gridE G (ix3 b n d) = ((G b n d : ℝ) : EReal) := rfl

theorem normE_apply (G : Fin 4 → Nodes) (b : Fin 4) (n : Fin 256) :
    normE G (ix2 b n) = ((norm2 (G b) n : ℝ) : EReal) := rfl

theorem itemE_apply (X : Fin 4 → Fin 128 → ℝ) (a : Fin 1) (b : Fin 4) (d : Fin 128) :
    itemE X (ix3 a b d) = ((X b d : ℝ) : EReal) := rfl

/-- The products of the nodes with the item. -/
theorem pay8_apply (X : Fin 4 → Fin 128 → ℝ) (G : Fin 4 → Nodes) (b : Fin 4) (n : Fin 256) :
    k0_pay8 (itemE X) (gridE G) (ix2 b n) = ((dot (X b) (G b) n : ℝ) : EReal) := by
  pointwise [k0_pay8, k0_pay7]
  simp only [gridE_apply, itemE_apply, dot, coe_sum, EReal.coe_mul]

/-- The chosen node is the first nearest one. -/
theorem pay9_apply (X : Fin 4 → Fin 128 → ℝ) (G : Fin 4 → Nodes) (b : Fin 4) :
    k0_pay9 lanes (itemE X) (gridE G) (normE G) (ix2 b 0) = BitVec.ofNat 32 (best (dist2 (X b) (G b))).val := by
  pointwise [k0_pay9, lanes]
  have hs : ∀ n : Fin 256, normE G (ix2 b n) - Ideal.ofBits FTy.f32 1073741824#32 * k0_pay8 (itemE X) (gridE G) (ix2 b n)
      = ((norm2 (G b) n - 2 * dot (X b) (G b) n : ℝ) : EReal) := by
    intro n
    rw [pay8_apply, normE_apply, ofBits_two, ← EReal.coe_mul, ← EReal.coe_sub]
  simp only [hs]
  rw [ofBits_inf, fold_min, ← best_score]
  simp only [EReal.coe_eq_coe_iff]
  exact fold_minsi _ _ rfl fun m hm => ne_of_gt (best_first _ m hm)

/-- The chosen node's row on the sheet, as the kernel divides. -/
def rowOf (z : BitVec 32) : BitVec 32 :=
  Scalar.select
    (IntOp.andi
      (IntOp.cmpi .ne
        (IntOp.subi (BitVec.setWidth 32 (IntOp.cmpi .sgt z 0#32)) (BitVec.setWidth 32 (IntOp.cmpi .slt z 0#32)))
        (Scalar.subi (Scalar.extui (Scalar.cmpi .sgt 16#32 0#32)) (Scalar.extui (Scalar.cmpi .slt 16#32 0#32))))
      (IntOp.cmpi .ne (IntOp.remsi .vector z 16#32) 0#32))
    (IntOp.subi (IntOp.divsi .vector z 16#32) 1#32) (IntOp.divsi .vector z 16#32)

/-- Its column. -/
def colOf (z : BitVec 32) : BitVec 32 := IntOp.remsi .vector z 16#32

/-- Is the place (`u`, `v`) on the sheet? -/
def inside (u v : BitVec 32) : BitVec 1 :=
  IntOp.andi (IntOp.andi (IntOp.andi (IntOp.cmpi .sge u 0#32) (IntOp.cmpi .slt u 16#32)) (IntOp.cmpi .sge v 0#32))
    (IntOp.cmpi .slt v 16#32)

/-- The node at the place clipped to the sheet. -/
def nodeAt (u v : BitVec 32) : BitVec 32 :=
  IntOp.addi (IntOp.muli (IntOp.minsi 15#32 (IntOp.maxsi 0#32 u)) 16#32) (IntOp.minsi 15#32 (IntOp.maxsi 0#32 v))

/-- The place in direction `k` of node `z`. -/
def placeU (k : Fin 4) (z : BitVec 32) : BitVec 32 := IntOp.addi (rowOf z) (![0#32, 1#32, 0#32, 4294967295#32] k)
def placeV (k : Fin 4) (z : BitVec 32) : BitVec 32 := IntOp.addi (colOf z) (![1#32, 0#32, 4294967295#32, 0#32] k)

set_option maxRecDepth 100000 in
/-- The tests say whether there is a neighbour, and the node at the clipped place is the target. -/
theorem place_eq : ∀ (k : Fin 4) (B : Fin 256),
    inside (placeU k (BitVec.ofNat 32 B.val)) (placeV k (BitVec.ofNat 32 B.val)) = BitVec.ofBool (ok k B)
      ∧ nodeAt (placeU k (BitVec.ofNat 32 B.val)) (placeV k (BitVec.ofNat 32 B.val)) = BitVec.ofNat 32 (tgt k B).val := by
  decide +kernel

/-- One direction's mark on node `n`. -/
theorem mark_eq (k : Fin 4) (B n : Fin 256) :
    IntOp.andi (inside (placeU k (BitVec.ofNat 32 B.val)) (placeV k (BitVec.ofNat 32 B.val)))
      (IntOp.cmpi .eq (BitVec.ofNat 32 n.val) (nodeAt (placeU k (BitVec.ofNat 32 B.val)) (placeV k (BitVec.ofNat 32 B.val))))
      = BitVec.ofBool (hits k B n) := by
  rw [(place_eq k B).1, (place_eq k B).2]
  have he : (BitVec.ofNat 32 n.val = BitVec.ofNat 32 (tgt k B).val) ↔ n = tgt k B := by
    constructor
    · intro h
      have h2 := congrArg BitVec.toInt h
      rw [toInt_ofNat_fin, toInt_ofNat_fin] at h2
      exact Fin.ext (by omega)
    · rintro rfl; rfl
  have hc : IntOp.cmpi .eq (BitVec.ofNat 32 n.val) (BitVec.ofNat 32 (tgt k B).val) = BitVec.ofBool (decide (n = tgt k B)) := by
    show BitVec.ofBool (BitVec.ofNat 32 n.val == BitVec.ofNat 32 (tgt k B).val) = _
    congr 1
    rw [Bool.eq_iff_iff, beq_iff_eq, decide_eq_true_iff]
    exact he
  rw [hc, hits]
  cases ok k B <;> cases decide (n = tgt k B) <;> rfl

/-- The marked lanes: the neighbours of the chosen node. -/
abbrev marks (x : Vec Ideal S1x4x128 .f32) (g : Vec Ideal S4x256x128 .f32) (q : Vec Ideal S4x256 .f32) : IVec S4x256 1 :=
  k0_pay24 lanes (k0_pay14 (k0_pay10 lanes x g q) (k0_pay11 lanes x g q) (k0_pay12 lanes x g q) k0_pay13)
    (k0_pay15 (k0_pay9 lanes x g q))
    (k0_pay19 lanes
      (k0_pay16 lanes (k0_pay9 lanes x g q) (k0_pay10 lanes x g q) (k0_pay11 lanes x g q) (k0_pay12 lanes x g q) k0_pay13)
      (k0_pay17 (k0_pay10 lanes x g q) (k0_pay11 lanes x g q) (k0_pay12 lanes x g q) k0_pay13)
      (k0_pay18 (k0_pay9 lanes x g q)) 0#32)
    (k0_pay21 (k0_pay15 (k0_pay9 lanes x g q)))
    (k0_pay22 (k0_pay14 (k0_pay10 lanes x g q) (k0_pay11 lanes x g q) (k0_pay12 lanes x g q) k0_pay13)
      (k0_pay15 (k0_pay9 lanes x g q)))
    15#32
    (k0_pay23 (k0_pay14 (k0_pay10 lanes x g q) (k0_pay11 lanes x g q) (k0_pay12 lanes x g q) k0_pay13))

theorem marks_apply (X : Fin 4 → Fin 128 → ℝ) (G : Fin 4 → Nodes) (b : Fin 4) (n : Fin 256) :
    marks (itemE X) (gridE G) (normE G) (ix2 b n) = BitVec.ofBool (hit (best (dist2 (X b) (G b))) n) := by
  have h := pay9_apply X G b
  generalize itemE X = x at *
  generalize gridE G = g at *
  generalize normE G = q at *
  pointwise [marks, k0_pay24, k0_pay23, k0_pay22, k0_pay21, k0_pay20, k0_pay19, k0_pay18, k0_pay17, k0_pay16, k0_pay15,
    k0_pay14, k0_pay13, k0_pay12, k0_pay11, k0_pay10]
  rw [h]
  generalize best (dist2 (X b) (G b)) = B
  show IntOp.ori (IntOp.ori (IntOp.ori (IntOp.ori 0#1
      (IntOp.andi (inside (placeU 0 (BitVec.ofNat 32 B.val)) (placeV 0 (BitVec.ofNat 32 B.val)))
        (IntOp.cmpi .eq (BitVec.ofNat 32 n.val) (nodeAt (placeU 0 (BitVec.ofNat 32 B.val)) (placeV 0 (BitVec.ofNat 32 B.val))))))
      (IntOp.andi (inside (placeU 1 (BitVec.ofNat 32 B.val)) (placeV 1 (BitVec.ofNat 32 B.val)))
        (IntOp.cmpi .eq (BitVec.ofNat 32 n.val) (nodeAt (placeU 1 (BitVec.ofNat 32 B.val)) (placeV 1 (BitVec.ofNat 32 B.val))))))
      (IntOp.andi (inside (placeU 2 (BitVec.ofNat 32 B.val)) (placeV 2 (BitVec.ofNat 32 B.val)))
        (IntOp.cmpi .eq (BitVec.ofNat 32 n.val) (nodeAt (placeU 2 (BitVec.ofNat 32 B.val)) (placeV 2 (BitVec.ofNat 32 B.val))))))
      (IntOp.andi (inside (placeU 3 (BitVec.ofNat 32 B.val)) (placeV 3 (BitVec.ofNat 32 B.val)))
        (IntOp.cmpi .eq (BitVec.ofNat 32 n.val) (nodeAt (placeU 3 (BitVec.ofNat 32 B.val)) (placeV 3 (BitVec.ofNat 32 B.val)))))
      = BitVec.ofBool (hit B n)
  rw [mark_eq, mark_eq, mark_eq, mark_eq, hit]
  cases hits 0 B n <;> cases hits 1 B n <;> cases hits 2 B n <;> cases hits 3 B n <;> rfl

/-- The three coefficients are the polynomials in the rate that they are named. -/
theorem named_keep : (Named.named κ "keep_sq" 0x3F7AE7D5#32 : Ideal .f32) = (((1 - rate) ^ 2 : ℝ) : EReal) := by
  rw [IdealRules.named_const.ideal_named_scalar _ _ _ _ rfl, rate]
  norm_num

theorem named_cross : (Named.named κ "cross" 0x3CA2339C#32 : Ideal .f32) = ((2 * rate * (1 - rate) : ℝ) : EReal) := by
  rw [IdealRules.named_const.ideal_named_scalar _ _ _ _ rfl, rate]
  norm_num

theorem named_rate : (Named.named κ "rate_sq" 0x38D1B717#32 : Ideal .f32) = ((rate ^ 2 : ℝ) : EReal) := by
  rw [IdealRules.named_const.ideal_named_scalar _ _ _ _ rfl, rate]
  norm_num

/-- The node buffer after one pass. -/
theorem pay4_eq (X : Fin 4 → Fin 128 → ℝ) (G : Fin 4 → Nodes) :
    k0_pay4 (k0_pay7 (itemE X)) (gridE G) (marks (itemE X) (gridE G) (normE G)) (Scalar.ofBits .f32 0x00000000#32)
      = gridE fun b => step rate (X b) (G b) := by
  funext i
  obtain ⟨b, n, d, rfl⟩ : ∃ b n d, i = ix3 b n d := ⟨i 0, i 1, i 2, by simp⟩
  have h := marks_apply X G b n
  generalize marks (itemE X) (gridE G) (normE G) = mk at *
  pointwise [k0_pay4, k0_pay7]
  rw [h, ofBits_rate, gridE_apply, gridE_apply, itemE_apply, step, moveAll, toward]
  cases hit (best (dist2 (X b) (G b))) n
  · exact add_zero _
  · show _ + _ = _
    rw [if_pos rfl, EReal.coe_add, EReal.coe_mul, EReal.coe_sub]
    rfl

/-- The norm buffer after one pass: again the squared norms of the node buffer. -/
theorem pay5_eq (X : Fin 4 → Fin 128 → ℝ) (G : Fin 4 → Nodes) :
    k0_pay5 (k0_pay7 (itemE X)) (normE G) (k0_pay8 (itemE X) (gridE G)) (marks (itemE X) (gridE G) (normE G))
      = normE fun b => step rate (X b) (G b) := by
  funext i
  obtain ⟨b, n, rfl⟩ : ∃ b n, i = ix2 b n := ⟨i 0, i 1, by simp⟩
  have h := marks_apply X G b n
  generalize marks (itemE X) (gridE G) (normE G) = mk at *
  pointwise [k0_pay5, k0_pay7]
  rw [h, pay8_apply, named_keep, named_cross, named_rate, normE_apply, normE_apply, step, norm2_moveAll]
  simp only [itemE_apply]
  cases hit (best (dist2 (X b) (G b))) n
  · rfl
  · simp only [EReal.coe_add, EReal.coe_mul, coe_sum, if_pos]
    rfl

/-- The stored result: the sum over the nodes. -/
theorem pay6_apply (G : Fin 4 → Nodes) (b : Fin 4) (d : Fin 128) :
    k0_pay6 (gridE G) (ix2 b d) = ((∑ n, G b n d : ℝ) : EReal) := by
  pointwise [k0_pay6]
  simp only [gridE_apply, coe_sum]

end Cert.KernelIdeal.Gen

end
-- ==== Proof.KernelLoop.lean ====
/-
  The kernel's loop over real numbers: before pass `k` the node buffer holds the map after `k` items, the norm buffer its
  squared norms; so the stored result is the sum over the nodes of the map after all 768 items.
-/
module

public import proofs.«01_k».proof.Proof.KernelStep
public import Idealize.ShloMosaic.Lib.VecWindow

@[expose] public section

noncomputable section

open Idealize.ShloMosaic Idealize.ShloMosaic.TcCoe Idealize.ShloMosaic.Tactic
open Idealize.SL.Sem

namespace Cert.KernelIdeal.Gen

open Som

/-- The items as the kernel holds them: time first, then the batch. -/
def embE (E : Fin 4 → Fin 256 → Fin 128 → ℝ) : Vec Ideal S256x4x128 .f32 := fun i => ((E (i 1) (i 0) (i 2) : ℝ) : EReal)

/-- The starting nodes as the kernel holds them. -/
def nodesE (N : Nodes) : Vec Ideal S256x128 .f32 := fun i => ((N (i 0) (i 1) : ℝ) : EReal)

/-- The items in the order they are used: the 256 items again and again. -/
def seqOf (E : Fin 4 → Fin 256 → Fin 128 → ℝ) (b : Fin 4) (s : ℕ) : Fin 128 → ℝ :=
  E b ⟨s % 256, Nat.mod_lt _ (by decide)⟩

/-- All four batch elements' maps after `k` items. -/
def maps (E : Fin 4 → Fin 256 → Fin 128 → ℝ) (N : Nodes) (k : ℕ) : Fin 4 → Nodes :=
  fun b => iter rate (seqOf E b) N k

/-- What a pass reads at time `t` is that time's item. -/
theorem item_read (E : Fin 4 → Fin 256 → Fin 128 → ℝ) (k : ℕ) (off : Fin 3 → ℕ) (h : off = ![k % 256, 0, 0])
    (inb : ∀ a, off a + S1x4x128.size a ≤ S256x4x128.size a) :
    (View.ld (embE E) (Rect.unit (s := S256x4x128) off S1x4x128.size inb) : Vec Ideal S1x4x128 .f32)
      = itemE fun b => seqOf E b k := by
  subst h
  funext i
  show embE E ((Rect.unit (s := S256x4x128) ![k % 256, 0, 0] S1x4x128.size inb).emb i) = _
  have h0 : (i 0).val = 0 := Nat.lt_one_iff.mp (i 0).isLt
  simp only [embE, itemE, seqOf]
  congr 2
  · apply Fin.ext; show 0 + 1 * (i 1).val = _; omega
  · apply Fin.ext; show k % 256 + 1 * (i 0).val = k % 256; rw [h0]; rfl
  · apply Fin.ext; show 0 + 1 * (i 2).val = _; omega

section Loop

variable (𝒱 : Variants) (c : Dev nD) (bd : Option 𝒱.V)
  (arg0 : Memref sig .tc .vmem S256x4x128 .f32) (harg0 : arg0.IsWhole) (arg1 : Memref sig .tc .vmem S256x128 .f32) (harg1 : arg1.IsWhole)
  (arg2 : Memref sig .tc .vmem S4x128 .f32) (harg2 : arg2.IsWhole) (arg3 : Memref sig .tc .vmem S4x256x128 .f32) (harg3 : arg3.IsWhole)
  (arg4 : Memref sig .tc .vmem S4x256 .f32) (harg4 : arg4.IsWhole)

section Marks

variable (x : BufTy.Contents (Elt Ideal) arg0.view.ty) (k : Fin k0_t1_loop.trips)
  (f3 : BufTy.Contents (Elt Ideal) arg3.view.ty) (f4 : BufTy.Contents (Elt Ideal) arg4.view.ty)

/-- The item that pass `k` reads. -/
abbrev itemAt : Vec Ideal S1x4x128 .f32 :=
  View.readAt (Elt Ideal) arg0.view (Rect.unit (s := S256x4x128) (k0_off1 k) S1x4x128.size (k0_off1_inb k)).toLoadRect x

/-- The run's named values, one after the other, are the payloads of the values before. -/
theorem sl_v24 : trip_k0_t1.sl.v24 arg0 x k = k0_pay7 (itemAt arg0 x k) := rfl

theorem sl_v30 : trip_k0_t1.sl.v30 arg0 arg3 x k f3 = k0_pay8 (itemAt arg0 x k) (trip_k0_t1.sl.r arg3 f3) := rfl

theorem sl_v41 : trip_k0_t1.sl.v41 arg0 arg3 arg4 lanes x k f3 f4
    = k0_pay9 lanes (itemAt arg0 x k) (trip_k0_t1.sl.r arg3 f3) (trip_k0_t1.sl.r_1 arg4 f4) := rfl

theorem sl_v43 : trip_k0_t1.sl.v43 arg0 arg3 arg4 lanes x k f3 f4
    = k0_pay10 lanes (itemAt arg0 x k) (trip_k0_t1.sl.r arg3 f3) (trip_k0_t1.sl.r_1 arg4 f4) := rfl

theorem sl_v57 : trip_k0_t1.sl.v57 arg0 arg3 arg4 lanes x k f3 f4
    = k0_pay11 lanes (itemAt arg0 x k) (trip_k0_t1.sl.r arg3 f3) (trip_k0_t1.sl.r_1 arg4 f4) := rfl

theorem sl_v59 : trip_k0_t1.sl.v59 arg0 arg3 arg4 lanes x k f3 f4
    = k0_pay12 lanes (itemAt arg0 x k) (trip_k0_t1.sl.r arg3 f3) (trip_k0_t1.sl.r_1 arg4 f4) := rfl

theorem sl_v65 : trip_k0_t1.sl.v65 arg0 arg3 arg4 lanes x k f3 f4
    = k0_pay14 (trip_k0_t1.sl.v43 arg0 arg3 arg4 lanes x k f3 f4) (trip_k0_t1.sl.v57 arg0 arg3 arg4 lanes x k f3 f4) (trip_k0_t1.sl.v59 arg0 arg3 arg4 lanes x k f3 f4) k0_pay13 := rfl

theorem sl_v99 : trip_k0_t1.sl.v99 arg0 arg3 arg4 lanes x k f3 f4
    = k0_pay16 lanes (trip_k0_t1.sl.v41 arg0 arg3 arg4 lanes x k f3 f4) (trip_k0_t1.sl.v43 arg0 arg3 arg4 lanes x k f3 f4) (trip_k0_t1.sl.v57 arg0 arg3 arg4 lanes x k f3 f4) (trip_k0_t1.sl.v59 arg0 arg3 arg4 lanes x k f3 f4) k0_pay13 := rfl

theorem sl_v130 : trip_k0_t1.sl.v130 arg0 arg3 arg4 lanes x k f3 f4
    = k0_pay19 lanes (trip_k0_t1.sl.v99 arg0 arg3 arg4 lanes x k f3 f4)
      (k0_pay17 (trip_k0_t1.sl.v43 arg0 arg3 arg4 lanes x k f3 f4) (trip_k0_t1.sl.v57 arg0 arg3 arg4 lanes x k f3 f4) (trip_k0_t1.sl.v59 arg0 arg3 arg4 lanes x k f3 f4) k0_pay13) (k0_pay18 (trip_k0_t1.sl.v41 arg0 arg3 arg4 lanes x k f3 f4)) 0#32 := rfl

theorem sl_v192 : trip_k0_t1.sl.v192 arg0 arg3 arg4 lanes x k f3 f4
    = k0_pay24 lanes (trip_k0_t1.sl.v65 arg0 arg3 arg4 lanes x k f3 f4) (k0_pay15 (trip_k0_t1.sl.v41 arg0 arg3 arg4 lanes x k f3 f4)) (trip_k0_t1.sl.v130 arg0 arg3 arg4 lanes x k f3 f4)
      (k0_pay21 (k0_pay15 (trip_k0_t1.sl.v41 arg0 arg3 arg4 lanes x k f3 f4))) (k0_pay22 (trip_k0_t1.sl.v65 arg0 arg3 arg4 lanes x k f3 f4) (k0_pay15 (trip_k0_t1.sl.v41 arg0 arg3 arg4 lanes x k f3 f4))) 15#32 (k0_pay23 (trip_k0_t1.sl.v65 arg0 arg3 arg4 lanes x k f3 f4)) := rfl

/-- So the run's mask is the marks of what the pass reads. -/
theorem sl_marks : trip_k0_t1.sl.v192 arg0 arg3 arg4 lanes x k f3 f4
    = marks (itemAt arg0 x k) (trip_k0_t1.sl.r arg3 f3) (trip_k0_t1.sl.r_1 arg4 f4) := by
  rw [sl_v192, sl_v130, sl_v99, sl_v65, sl_v59, sl_v57, sl_v43, sl_v41]

end Marks

set_option maxHeartbeats 1000000 in
/-- One pass: from real nodes and their norms to the moved nodes and theirs. -/
theorem trip_value (E : Fin 4 → Fin 256 → Fin 128 → ℝ) (G : Fin 4 → Nodes) (k : Fin k0_t1_loop.trips)
    (f3 : BufTy.Contents (Elt Ideal) arg3.view.ty) (f4 : BufTy.Contents (Elt Ideal) arg4.view.ty)
    (h3 : arg3.view.read (Elt Ideal) f3 = gridE G) (h4 : arg4.view.read (Elt Ideal) f4 = normE G) :
    arg3.view.read (Elt Ideal) (arg3.view.writes (Elt Ideal) f3
        ((trip_k0_t1 (F := Ideal) 𝒱 c bd arg0 harg0 arg1 harg1 arg2 harg2 arg3 harg3 arg4 harg4 lanes (harg0.unread (embE E)) k).1 f3 f4))
      = gridE (fun b => step rate (seqOf E b k.val) (G b))
    ∧ arg4.view.read (Elt Ideal) (arg4.view.writes (Elt Ideal) f4
        ((trip_k0_t1 (F := Ideal) 𝒱 c bd arg0 harg0 arg1 harg1 arg2 harg2 arg3 harg3 arg4 harg4 lanes (harg0.unread (embE E)) k).2.1 f3 f4))
      = normE (fun b => step rate (seqOf E b k.val) (G b)) := by
  have hx : itemAt arg0 (harg0.unread (embE E)) k = itemE fun b => seqOf E b k.val := by
    rw [itemAt, View.readAt_eq_ld, harg0.read_unread]
    exact item_read E k.val (k0_off1 k) (k0_off1_eq k) (k0_off1_inb k)
  have e3 : trip_k0_t1.sl.r arg3 f3 = gridE G := (View.readAt_full _ _ _).trans h3
  have e4 : trip_k0_t1.sl.r_1 arg4 f4 = normE G := (View.readAt_full _ _ _).trans h4
  unfold trip_k0_t1
  dsimp only
  rw [View.read_writes_full, View.read_writes_full, sl_marks, sl_v24, sl_v30, hx, e3, e4]
  exact ⟨pay4_eq _ G, pay5_eq _ G⟩

/-- The two buffers before pass `k`, from what the loop finds in them. -/
theorem loop_value (E : Fin 4 → Fin 256 → Fin 128 → ℝ) (N : Nodes)
    (g3 : BufTy.Contents (Elt Ideal) arg3.view.ty) (g4 : BufTy.Contents (Elt Ideal) arg4.view.ty)
    (h3 : arg3.view.read (Elt Ideal) g3 = gridE fun _ => N) (h4 : arg4.view.read (Elt Ideal) g4 = normE fun _ => N) :
    ∀ k : ℕ, k ≤ k0_t1_loop.trips →
      arg3.view.read (Elt Ideal) (arg3.view.writes (Elt Ideal) g3
          (pb_k0_t1 (F := Ideal) 𝒱 c bd arg0 harg0 arg1 harg1 arg2 harg2 arg3 harg3 arg4 harg4 lanes (harg0.unread (embE E)) g3 g4 k).1)
        = gridE (maps E N k)
      ∧ arg4.view.read (Elt Ideal) (arg4.view.writes (Elt Ideal) g4
          (pb_k0_t1 (F := Ideal) 𝒱 c bd arg0 harg0 arg1 harg1 arg2 harg2 arg3 harg3 arg4 harg4 lanes (harg0.unread (embE E)) g3 g4 k).2)
        = normE (maps E N k)
  | 0, _ => ⟨h3, h4⟩
  | k + 1, hk => by
    obtain ⟨i3, i4⟩ := loop_value E N g3 g4 h3 h4 k (Nat.le_of_succ_le hk)
    have h := trip_value 𝒱 c bd arg0 harg0 arg1 harg1 arg2 harg2 arg3 harg3 arg4 harg4 E (maps E N k) ⟨k, hk⟩ _ _ i3 i4
    rw [pb_k0_t1_succ 𝒱 c bd arg0 harg0 arg1 harg1 arg2 harg2 arg3 harg3 arg4 harg4 lanes (harg0.unread (embE E)) g3 g4 ⟨k, hk⟩]
    dsimp only
    rw [View.writes_append, View.writes_append]
    exact h

/-- The nodes stored before the loop. -/
theorem pay2_eq (N : Nodes) : k0_pay2 (nodesE N) = gridE fun _ => N := by
  funext i
  obtain ⟨b, n, d, rfl⟩ : ∃ b n d, i = ix3 b n d := ⟨i 0, i 1, i 2, by simp⟩
  pointwise [k0_pay2, k0_pay1]
  rfl

/-- Their squared norms. -/
theorem pay3_eq (N : Nodes) : k0_pay3 (nodesE N) = normE fun _ => N := by
  funext i
  obtain ⟨b, n, rfl⟩ : ∃ b n, i = ix2 b n := ⟨i 0, i 1, by simp⟩
  pointwise [k0_pay3, k0_pay1]
  rw [normE_apply, norm2, coe_sum]
  simp only [EReal.coe_mul]
  rfl

/-- The result's contents: the sum over the nodes of the map after all items. -/
def outE (E : Fin 4 → Fin 256 → Fin 128 → ℝ) (N : Nodes) : Vec Ideal S4x128 .f32 :=
  fun i => ((∑ n, maps E N 768 (i 0) n (i 1) : ℝ) : EReal)

/-- What the body leaves in the output's buffer. -/
theorem out_value (E : Fin 4 → Fin 256 → Fin 128 → ℝ) (N : Nodes) :
    out0_A_2 (F := Ideal) c arg0 harg0 arg1 harg1 arg2 harg2 arg3 harg3 arg4 harg4 (embE E) (nodesE N) = outE E N := by
  unfold out0_A_2
  rw [View.read_writes_eq_canon _ _ _ (cover0_A_2 c arg0 harg0 arg1 harg1 arg2 harg2 arg3 harg3 arg4 harg4 (embE E) (nodesE N))]
  unfold kernelRun0_A
  dsimp only
  sl_unfold_run_names
  rw [View.canon_unit_zero (S := S4x128) (funext fun a => by fin_cases a <;> rfl)]
  have e1 : View.readAt (Elt Ideal) arg1.view (Rect.unit (s := S256x128) ![0, 0] S256x128.size inb_S256x128_S256x128_0_0).toLoadRect
      (harg1.unread (nodesE N)) = nodesE N := (View.readAt_full _ _ _).trans (harg1.read_unread _)
  rw [View.readCov, View.writes_append]
  refine (congrArg k0_pay6 ((View.readAt_full _ _ _).trans
    (loop_value Variants.none c none arg0 harg0 arg1 harg1 arg2 harg2 arg3 harg3 arg4 harg4 E N _ _ ?_ ?_ _ (le_refl _)).1)).trans ?_
  · exact (View.read_writes_full _ _ _ _ _).trans ((congrArg k0_pay2 e1).trans (pay2_eq N))
  · exact (View.read_writes_full _ _ _ _ _).trans ((congrArg k0_pay3 e1).trans (pay3_eq N))
  funext i
  obtain ⟨b, d, rfl⟩ : ∃ b d, i = ix2 b d := ⟨i 0, i 1, by simp⟩
  rw [pay6_apply]
  rfl

end Loop

end Cert.KernelIdeal.Gen

end
-- ==== Proof.KernelValue.lean ====
/-
  The kernel's run over real arguments: its result array ends at the sum over the nodes of the map after all items.
-/
module

public import proofs.«01_k».proof.Proof.KernelLoop

@[expose] public section

noncomputable section

open Idealize.ShloMosaic Idealize.ShloMosaic.TcCoe Idealize.ShloMosaic.Tactic
open Idealize.SL.Sem
open Idealize.ShloMosaic.Pipeline (Dat)

namespace Som

/-- The starting nodes of the 16 by 16 sheet, one after the other row by row. -/
def flat (W : Fin 16 → Fin 16 → Fin 128 → ℝ) : Nodes :=
  fun n d => W ⟨n.val / 16, by have := n.isLt; omega⟩ ⟨n.val % 16, Nat.mod_lt _ (by decide)⟩ d

end Som

namespace Cert.KernelIdeal.Gen

open Som

/-- Real first arguments: the batch first, then time. -/
def arg0E (E : Fin 4 → Fin 256 → Fin 128 → ℝ) : Vec Ideal S4x256x128 .f32 := fun i => ((E (i 0) (i 1) (i 2) : ℝ) : EReal)

/-- Real second arguments. -/
def arg1E (W : Fin 16 → Fin 16 → Fin 128 → ℝ) : Vec Ideal S16x16x128 .f32 := fun i => ((W (i 0) (i 1) (i 2) : ℝ) : EReal)

variable (m : (ℓ : Loc nD τ sig) → Buf (Elt Ideal) ℓ) (ρ : Dev nD → PrngReg)

/-- The first argument transposed. -/
theorem transpose_arg (E : Fin 4 → Fin 256 → Fin 128 → ℝ) :
    transpose S256x4x128 [1, 0, 2] (arg0E E) transposes_S4x256x128_S256x4x128_1_0_2 = embE E := by
  funext i
  obtain ⟨t, b, d, rfl⟩ : ∃ t b d, i = ix3 t b d := ⟨i 0, i 1, i 2, by simp⟩
  pointwise
  rfl

/-- The second argument flattened. -/
theorem flat_arg (W : Fin 16 → Fin 16 → Fin 128 → ℝ) :
    shapeCast S256x128 (arg1E W) shapeCasts_S16x16x128_S256x128 = nodesE (flat W) := by
  funext i
  obtain ⟨n, d, rfl⟩ : ∃ n d, i = ix2 n d := ⟨i 0, i 1, by simp⟩
  pointwise
  rfl

theorem V_v0 (c : Dev nD) (E : Fin 4 → Fin 256 → Fin 128 → ℝ) (h : m ((c : Thread nD τ).loc main_arg0) = arg0E E) :
    V m c main_v0 = embE E := by
  rw [← transpose_arg E, ← h]
  unfold V hostOps0
  after_results

theorem V_v1 (c : Dev nD) (W : Fin 16 → Fin 16 → Fin 128 → ℝ) (h : m ((c : Thread nD τ).loc main_arg1) = arg1E W) :
    V m c main_v1 = nodesE (flat W) := by
  rw [← flat_arg W, ← h]
  unfold V hostOps0
  after_results
  rfl

/-- The one block of the first window is the whole array. -/
theorem iblk0 (c : Dev nD) (t : Fin cfg0.N) : (iblk m c 0 t : Vec Ideal S256x4x128 .f32) = V m c main_v0 := by
  obtain rfl : t = t0_0 := fin_N0 t
  have hz : (fun a => win0_0.index t0_0 a * main_v0.ty.shape.size a) = fun _ => 0 := funext fun a => by fin_cases a <;> decide
  exact Memref.read_access_unit_zero (Elt Ideal) main_v0 hz (fun a => by rw [congrFun hz a]; simp) (V m c main_v0)

/-- The one block of the second window is the whole array. -/
theorem iblk1 (c : Dev nD) (t : Fin cfg0.N) : (iblk m c 1 t : Vec Ideal S256x128 .f32) = V m c main_v1 := by
  obtain rfl : t = t0_0 := fin_N0 t
  have hz : (fun a => win0_1.index t0_0 a * main_v1.ty.shape.size a) = fun _ => 0 := funext fun a => by fin_cases a <;> decide
  exact Memref.read_access_unit_zero (Elt Ideal) main_v1 hz (fun a => by rw [congrFun hz a]; simp) (V m c main_v1)

/-- What the one point writes back is the sum over the nodes of the map after all items. -/
theorem flushed_value (c : Dev nD) (E : Fin 4 → Fin 256 → Fin 128 → ℝ) (W : Fin 16 → Fin 16 → Fin 128 → ℝ)
    (h0 : m ((c : Thread nD τ).loc main_arg0) = arg0E E) (h1 : m ((c : Thread nD τ).loc main_arg1) = arg1E W) (t : Fin cfg0.N) :
    (dats m 0 c).flushed 2 t = ((cfg0.win 2).blk t).view.read (Elt Ideal) (outE E (flat W) : Buf (Elt Ideal) ((c : Thread nD τ).loc main_v2)) := by
  have e : outsAt0 m c t = outE E (flat W) := by
    unfold outsAt0
    rw [iblk0, iblk1, V_v0 m c E h0, V_v1 m c W h1]
    exact out_value c _ _ _ _ _ _ _ _ _ _ E (flat W)
  rw [Cert.KernelIdeal.Value.flushed2, e]
  obtain rfl : t = t0_0 := fin_N0 t
  have hz : (fun a => win0_2.index t0_0 a * main_v2.ty.shape.size a) = fun _ => 0 := funext fun a => by fin_cases a <;> decide
  exact (Memref.read_access_unit_zero (Elt Ideal) main_v2 hz (fun a => by rw [congrFun hz a]; simp) (outE E (flat W))).symm

/-- So the result array ends at it. -/
theorem final_value (c : Dev nD) (E : Fin 4 → Fin 256 → Fin 128 → ℝ) (W : Fin 16 → Fin 16 → Fin 128 → ℝ)
    (h0 : m ((c : Thread nD τ).loc main_arg0) = arg0E E) (h1 : m ((c : Thread nD τ).loc main_arg1) = arg1E W) :
    (dats m 0 c).arrAt 2 cfg0.N = (outE E (flat W) : Buf (Elt Ideal) ((c : Thread nD τ).loc main_v2)) :=
  (dats m 0 c).arrAt_eq_of_cover 2 _ (fun t _ => flushed_value m c E W h0 h1 t) fun i =>
    ⟨t0_0, flush0_2 t0_0, by
      show i ∈ ((View.whole main_v2).slice (win0_2.rect t0_0)).set
      rw [View.set_slice_whole, Rect.mem_set_unit]
      intro a
      have h0 : (i 0 : Nat) < 4 := (i 0).isLt
      have h1 : (i 1 : Nat) < 128 := (i 1).isLt
      match a with
      | ⟨0, _⟩ => show win0_2.index t0_0 0 * win0_2.size 0 ≤ (i 0 : Nat) ∧ (i 0 : Nat) < win0_2.index t0_0 0 * win0_2.size 0 + win0_2.xsize (grid0.coords t0_0) 0
                  rw [show win0_2.index t0_0 0 * win0_2.size 0 = 0 from by decide +kernel, show win0_2.xsize (grid0.coords t0_0) 0 = 4 from by decide +kernel]; omega
      | ⟨1, _⟩ => show win0_2.index t0_0 1 * win0_2.size 1 ≤ (i 1 : Nat) ∧ (i 1 : Nat) < win0_2.index t0_0 1 * win0_2.size 1 + win0_2.xsize (grid0.coords t0_0) 1
                  rw [show win0_2.index t0_0 1 * win0_2.size 1 = 0 from by decide +kernel, show win0_2.xsize (grid0.coords t0_0) 1 = 128 from by decide +kernel]; omega⟩

end Cert.KernelIdeal.Gen

end
-- ==== Proof.RefStep.lean ====
/-
  One pass of the reference's loop as functions of arrays: the item at an index, the distances, the nearest node, its row
  and column, and the move of one neighbour; and what each of them is over real numbers.
-/
module

public import proofs.«01_k».proof.Proof.KernelValue
public import Idealize.ShloMosaic.Lib.Routing.OpsSet

@[expose] public section

noncomputable section

namespace Cert.ReferenceIdeal.Value

open Cert.ReferenceIdeal Cert.ReferenceIdeal.Gen Idealize.ShloMosaic

local instance : Facts := facts

/-- One word for each batch element. -/
abbrev all4 (w : BitVec 32) : IVec S4 32 := broadcastInDim S4 ![] bcast_S_S4 (constantI S_ 32 w)

/-- A negative index counts from the end. -/
abbrev wrap (n : BitVec 32) (x : IVec S4 32) : IVec S4 32 := select (cmpi .slt x (all4 0#32)) (addi x (all4 n)) x

/-- The three index words of each batch element side by side. -/
abbrev triple (p u v : IVec S4 32) : IVec S4x3 32 :=
  concatenate S4x3 1 [⟨S4x1, broadcastInDim S4x1 ![0] bcast_S4_S4x1_0 (wrap 4#32 p)⟩,
    ⟨S4x1, broadcastInDim S4x1 ![0] bcast_S4_S4x1_0 (wrap 16#32 u)⟩,
    ⟨S4x1, broadcastInDim S4x1 ![0] bcast_S4_S4x1_0 (wrap 16#32 v)⟩] concatenates_S4x1_S4x1_S4x1_S4x3_d1

/-- The nodes at those places. -/
abbrev nodesAt (g : FVec Ideal S4x16x16x128 .f32) (z : IVec S4x3 32) : FVec Ideal S4x128 .f32 :=
  Host.gather gather_S4x16x16x128_S4x3_S4x128_1_012_n_n_012_1_111128 g z

/-- A node moved towards the item where the place is on the sheet. -/
abbrev moved (x cur : FVec Ideal S4x128 .f32) (o : IVec S4 1) : FVec Ideal S4x128 .f32 :=
  select (broadcastInDim S4x128 ![0, 1] bcast_S4x1_S4x128_0_1 (broadcastInDim S4x1 ![0] bcast_S4_S4x1_0 o))
    (addf cur (mulf (broadcastInDim S4x128 ![] bcast_S_S4x128 (constant S_ .f32 0x3C23D70A#32)) (subf x cur))) cur

/-- The sheet with those nodes replaced. -/
abbrev putNodes (g : FVec Ideal S4x16x16x128 .f32) (z : IVec S4x3 32) (y : FVec Ideal S4x128 .f32) : FVec Ideal S4x16x16x128 .f32 :=
  Host.scatter scatter_S4x16x16x128_S4x3_S4x128_1_012_012_1 (fun _ b => b) g z y

/-- The sheet after the move at the place (`u`, `v`). -/
abbrev moveAt (x : FVec Ideal S4x128 .f32) (p u v : IVec S4 32) (o : IVec S4 1) (g : FVec Ideal S4x16x16x128 .f32) :
    FVec Ideal S4x16x16x128 .f32 :=
  putNodes g (triple p u v) (moved x (nodesAt g (triple p u v)) o)

/-- A coordinate clipped to the sheet. -/
abbrev clip (lo hi : IVec S_ 32) (u : IVec S4 32) : IVec S4 32 :=
  minsi (broadcastInDim S4 ![] bcast_S_S4 hi) (maxsi (broadcastInDim S4 ![] bcast_S_S4 lo) u)

/-- Is the place on the sheet? -/
abbrev onSheet (u v : IVec S4 32) : IVec S4 1 :=
  andi (andi (andi (cmpi .sge u (all4 0#32)) (cmpi .slt u (all4 16#32))) (cmpi .sge v (all4 0#32))) (cmpi .slt v (all4 16#32))

/-- One word. -/
abbrev one0 (w : BitVec 32) : IVec S_ 32 := constantI S_ 32 w

/-- A single index wrapped the same way. -/
abbrev wrap0 (n : BitVec 32) (k : IVec S_ 32) : IVec S_ 32 := select (cmpi .slt k (one0 0#32)) (addi k (one0 n)) k

/-- The item at an index. -/
abbrev itemAt (xs : FVec Ideal S768x4x128 .f32) (k : IVec S_ 32) : FVec Ideal S4x128 .f32 :=
  shapeCast S4x128 (Host.dynamicSlice S1x4x128 xs
    (fun a => ((![wrap0 768#32 k, wrap0 4#32 (one0 0#32), wrap0 128#32 (one0 0#32)] : Fin 3 → IVec S_ 32) a (Shape.Idx.first h_S_)).toInt)
    sliceFits_S768x4x128_S1x4x128) shapeCasts_S1x4x128_S4x128

/-- The differences between the nodes and the item. -/
abbrev diffs (x : FVec Ideal S4x128 .f32) (g : FVec Ideal S4x16x16x128 .f32) : FVec Ideal S4x256x128 .f32 :=
  subf (shapeCast S4x256x128 g shapeCasts_S4x16x16x128_S4x256x128)
    (broadcastInDim S4x256x128 ![0, 1, 2] bcast_S4x1x128_S4x256x128_0_1_2
      (broadcastInDim S4x1x128 ![0, 2] bcast_S4x128_S4x1x128_0_2 x))

/-- The distances from the nodes to the item. -/
abbrev dists (x : FVec Ideal S4x128 .f32) (g : FVec Ideal S4x16x16x128 .f32) : FVec Ideal S4x256 .f32 :=
  Host.sqrt (Host.reduceAdd (mulf (diffs x g) (diffs x g)) (constant S_ .f32 0x00000000#32) reducesTo_S4x256x128_S4x256_d2 h_S_)

/-- The number of the nearest node. -/
abbrev nearest (q : FVec Ideal S4x256 .f32) : IVec S4 32 := fun j =>
  (Host.argReduce reducer_argmin_f32_i32 q (iotaInDim S4x256 32 1) (constant S_ .f32 0x7F800000#32) (one0 0#32)
    reducesTo_S4x256_S4_d1 h_S_ j).2

/-- The row of a node on the sheet: the quotient by 16, rounded down. -/
abbrev rowsOf (z : IVec S4 32) : IVec S4 32 :=
  select (andi (cmpi .ne (signi z) (broadcastInDim S4 ![] bcast_S_S4 (signi (one0 16#32))))
      (cmpi .ne (Host.remsi z (all4 16#32)) (all4 0#32)))
    (subi (Host.divsi z (all4 16#32)) (all4 1#32)) (Host.divsi z (all4 16#32))

/-- The divisor of the remainder, which is 16. -/
abbrev sixteen : IVec S_ 32 := select (cmpi .eq (one0 16#32) (one0 0#32)) (one0 1#32) (one0 16#32)

/-- The column: the remainder with the divisor's sign. -/
abbrev colsOf (z : IVec S4 32) : IVec S4 32 :=
  select (andi (cmpi .ne (cmpi .slt (Host.remsi z (broadcastInDim S4 ![] bcast_S_S4 sixteen)) (all4 0#32))
        (broadcastInDim S4 ![] bcast_S_S4 (cmpi .slt sixteen (one0 0#32))))
      (cmpi .ne (Host.remsi z (broadcastInDim S4 ![] bcast_S_S4 sixteen)) (all4 0#32)))
    (addi (Host.remsi z (broadcastInDim S4 ![] bcast_S_S4 sixteen)) (broadcastInDim S4 ![] bcast_S_S4 sixteen))
    (Host.remsi z (broadcastInDim S4 ![] bcast_S_S4 sixteen))

/-- The move in one direction from the place (`r`, `c`). -/
abbrev moveBy (du dv : BitVec 32) (x : FVec Ideal S4x128 .f32) (r c : IVec S4 32) (g : FVec Ideal S4x16x16x128 .f32) :
    FVec Ideal S4x16x16x128 .f32 :=
  moveAt x (iotaInDim S4 32 0) (clip (one0 0#32) (one0 15#32) (addi r (all4 du)))
    (clip (one0 0#32) (one0 15#32) (addi c (all4 dv))) (onSheet (addi r (all4 du)) (addi c (all4 dv))) g

/-- One pass: the sheet after the item at index `k`. -/
def pass (xs : FVec Ideal S768x4x128 .f32) (k : IVec S_ 32) (g : FVec Ideal S4x16x16x128 .f32) : FVec Ideal S4x16x16x128 .f32 :=
  let x := itemAt xs k
  let z := nearest (dists x g)
  let r := rowsOf z
  let c := colsOf z
  moveBy 4294967295#32 0#32 x r c (moveBy 0#32 4294967295#32 x r c (moveBy 1#32 0#32 x r c (moveBy 0#32 1#32 x r c g)))

end Cert.ReferenceIdeal.Value

end
-- ==== Proof.RefRead.lean ====
/-
  The reference's loop body read stretch by stretch: what each stretch of operations leaves in the arrays that later
  stretches read, in terms of what it found; together, one trip takes the sheet to `pass` of it.
-/
module

public import proofs.«01_k».proof.Proof.RefStep

@[expose] public section

set_option maxRecDepth 8192

noncomputable section

namespace Cert.ReferenceIdeal.Value

open Cert.ReferenceIdeal Cert.ReferenceIdeal.Gen Idealize.ShloMosaic Idealize.ShloMosaic.TcCoe Idealize.SL.Sem
open Idealize.ShloMosaic.StableHlo Idealize.ShloMosaic.Tactic

local instance : Facts := facts

variable (V : Valuation τ sig (Elt Ideal))

/-- The next index and the batch numbers. -/
theorem read_next :
    after while0Ops0 V (Proc.devRef .tc main_while0b_v6)
        = addi (V (Proc.devRef .tc main_v3_2)) (one0 1#32)
      ∧ after while0Ops0 V (Proc.devRef .tc main_while0b_v19)
        = iotaInDim S4 32 0 := by
  refine ⟨?_, ?_⟩ <;> (unfold while0Ops0; after_results; try rfl)

/-- The item. -/
theorem read_item : after while0Ops0 V (Proc.devRef .tc main_while0b_v18)
    = itemAt (V (Proc.devRef .tc main_v3_0)) (V (Proc.devRef .tc main_v3_2)) := by
  unfold while0Ops0
  after_results_simp
  refine congrArg (fun st : Fin 3 → Int => shapeCast S4x128 (Host.dynamicSlice S1x4x128
    (V (Proc.devRef .tc main_v3_0)) st sliceFits_S768x4x128_S1x4x128)
    shapeCasts_S1x4x128_S4x128) (funext fun k => ?_)
  match k with
  | 0 =>
    dsimp only [Matrix.cons_val_zero, Matrix.cons_val_one, Matrix.cons_val]
    simp only [↓ readResult, ↓ readPieces]
    rfl
  | 1 =>
    dsimp only [Matrix.cons_val_zero, Matrix.cons_val_one, Matrix.cons_val]
    simp only [↓ readResult, ↓ readPieces]
    rfl
  | 2 =>
    dsimp only [Matrix.cons_val_zero, Matrix.cons_val_one, Matrix.cons_val]
    simp only [↓ readResult, ↓ readPieces]
    rfl

/-- The distances. -/
theorem read_dists : after while0Ops0 V (Proc.devRef .tc main_while0b_v26)
    = dists (itemAt (V (Proc.devRef .tc main_v3_0)) (V (Proc.devRef .tc main_v3_2))) (V (Proc.devRef .tc main_v3_3)) := by
  unfold while0Ops0
  after_results_simp
  refine congrArg (fun st : Fin 3 → Int => dists (shapeCast S4x128 (Host.dynamicSlice S1x4x128
    (V (Proc.devRef .tc main_v3_0)) st sliceFits_S768x4x128_S1x4x128)
    shapeCasts_S1x4x128_S4x128) (V (Proc.devRef .tc main_v3_3))) (funext fun k => ?_)
  match k with
  | 0 =>
    dsimp only [Matrix.cons_val_zero, Matrix.cons_val_one, Matrix.cons_val]
    simp only [↓ readResult, ↓ readPieces]
    rfl
  | 1 =>
    dsimp only [Matrix.cons_val_zero, Matrix.cons_val_one, Matrix.cons_val]
    simp only [↓ readResult, ↓ readPieces]
    rfl
  | 2 =>
    dsimp only [Matrix.cons_val_zero, Matrix.cons_val_one, Matrix.cons_val]
    simp only [↓ readResult, ↓ readPieces]
    rfl

/-- The nearest node. -/
theorem read_nearest :
    after while0Ops0_1 V (Proc.devRef .tc main_while0b_v27)
        = nearest (V (Proc.devRef .tc main_while0b_v26)) := by
  unfold while0Ops0_1
  after_results
  try rfl

/-- Its row. -/
theorem read_row :
    afterL [while0Ops0_2, while0Ops0_3] V (Proc.devRef .tc main_while0b_v28)
      = rowsOf (V (Proc.devRef .tc main_while0b_v27)) := by
  simp only [afterL_cons, afterL_nil]
  unfold while0Ops0_2 while0Ops0_3
  after_results
  try rfl

/-- Its column. -/
theorem read_col :
    afterL [while0Ops0_4, while0Ops0_5] V (Proc.devRef .tc main_while0b_v29)
      = colsOf (V (Proc.devRef .tc main_while0b_v27)) := by
  simp only [afterL_cons, afterL_nil]
  unfold while0Ops0_4 while0Ops0_5
  after_results
  try rfl

/-- The place one step right. -/
theorem place_right :
    after while0Ops0_6 V (Proc.devRef .tc main_while0b_v31)
        = addi (V (Proc.devRef .tc main_while0b_v28)) (all4 0#32)
      ∧ after while0Ops0_6 V (Proc.devRef .tc main_while0b_v33)
        = addi (V (Proc.devRef .tc main_while0b_v29)) (all4 1#32)
      ∧ after while0Ops0_6 V (Proc.devRef .tc main_while0b_v44)
        = onSheet (addi (V (Proc.devRef .tc main_while0b_v28)) (all4 0#32)) (addi (V (Proc.devRef .tc main_while0b_v29)) (all4 1#32))
      ∧ after while0Ops0_6 V (Proc.devRef .tc main_while0b_c_26)
        = one0 0#32
      ∧ after while0Ops0_6 V (Proc.devRef .tc main_while0b_c_27)
        = one0 15#32 := by
  refine ⟨?_, ?_, ?_, ?_, ?_⟩ <;>
    (unfold while0Ops0_6; after_results; try rfl)

/-- The move right. -/
theorem move_right :
    afterL [while0Ops0_7, while0Ops0_8, while0Ops0_9, while0Ops0_10, while0Ops0_11, while0Ops0_12] V (Proc.devRef .tc main_while0b_v92)
      = moveAt (V (Proc.devRef .tc main_while0b_v18)) (V (Proc.devRef .tc main_while0b_v19)) (clip (V (Proc.devRef .tc main_while0b_c_26)) (V (Proc.devRef .tc main_while0b_c_27)) (V (Proc.devRef .tc main_while0b_v31)))
          (clip (one0 0#32) (one0 15#32) (V (Proc.devRef .tc main_while0b_v33))) (V (Proc.devRef .tc main_while0b_v44)) (V (Proc.devRef .tc main_v3_3)) := by
  simp only [afterL_cons, afterL_nil]
  unfold while0Ops0_7 while0Ops0_8 while0Ops0_9 while0Ops0_10 while0Ops0_11 while0Ops0_12
  after_results
  dsimp only [Matrix.cons_val_zero, Matrix.cons_val_one, Matrix.cons_val]
  simp only [↓ readResult, ↓ readPieces]
  rfl

/-- The place one step down. -/
theorem place_down :
    after while0Ops0_12 V (Proc.devRef .tc main_while0b_v94)
        = addi (V (Proc.devRef .tc main_while0b_v28)) (all4 1#32)
      ∧ after while0Ops0_12 V (Proc.devRef .tc main_while0b_v96)
        = addi (V (Proc.devRef .tc main_while0b_v29)) (all4 0#32)
      ∧ after while0Ops0_12 V (Proc.devRef .tc main_while0b_v107)
        = onSheet (addi (V (Proc.devRef .tc main_while0b_v28)) (all4 1#32)) (addi (V (Proc.devRef .tc main_while0b_v29)) (all4 0#32))
      ∧ after while0Ops0_12 V (Proc.devRef .tc main_while0b_c_49)
        = one0 0#32
      ∧ after while0Ops0_12 V (Proc.devRef .tc main_while0b_c_50)
        = one0 15#32 := by
  refine ⟨?_, ?_, ?_, ?_, ?_⟩ <;>
    (unfold while0Ops0_12; after_results; try rfl)

/-- The move down. -/
theorem move_down :
    afterL [while0Ops0_13, while0Ops0_14, while0Ops0_15, while0Ops0_16, while0Ops0_17, while0Ops0_18] V (Proc.devRef .tc main_while0b_v155)
      = moveAt (V (Proc.devRef .tc main_while0b_v18)) (V (Proc.devRef .tc main_while0b_v19)) (clip (V (Proc.devRef .tc main_while0b_c_49)) (V (Proc.devRef .tc main_while0b_c_50)) (V (Proc.devRef .tc main_while0b_v94)))
          (clip (one0 0#32) (one0 15#32) (V (Proc.devRef .tc main_while0b_v96))) (V (Proc.devRef .tc main_while0b_v107)) (V (Proc.devRef .tc main_while0b_v92)) := by
  simp only [afterL_cons, afterL_nil]
  unfold while0Ops0_13 while0Ops0_14 while0Ops0_15 while0Ops0_16 while0Ops0_17 while0Ops0_18
  after_results
  dsimp only [Matrix.cons_val_zero, Matrix.cons_val_one, Matrix.cons_val]
  simp only [↓ readResult, ↓ readPieces]
  rfl

/-- The place one step left. -/
theorem place_left :
    after while0Ops0_18 V (Proc.devRef .tc main_while0b_v157)
        = addi (V (Proc.devRef .tc main_while0b_v28)) (all4 0#32)
      ∧ after while0Ops0_18 V (Proc.devRef .tc main_while0b_v159)
        = addi (V (Proc.devRef .tc main_while0b_v29)) (all4 4294967295#32)
      ∧ after while0Ops0_18 V (Proc.devRef .tc main_while0b_v170)
        = onSheet (addi (V (Proc.devRef .tc main_while0b_v28)) (all4 0#32)) (addi (V (Proc.devRef .tc main_while0b_v29)) (all4 4294967295#32))
      ∧ after while0Ops0_18 V (Proc.devRef .tc main_while0b_c_72)
        = one0 0#32
      ∧ after while0Ops0_18 V (Proc.devRef .tc main_while0b_c_73)
        = one0 15#32 := by
  refine ⟨?_, ?_, ?_, ?_, ?_⟩ <;>
    (unfold while0Ops0_18; after_results; try rfl)

/-- The move left. -/
theorem move_left :
    afterL [while0Ops0_19, while0Ops0_20, while0Ops0_21, while0Ops0_22, while0Ops0_23, while0Ops0_24] V (Proc.devRef .tc main_while0b_v218)
      = moveAt (V (Proc.devRef .tc main_while0b_v18)) (V (Proc.devRef .tc main_while0b_v19)) (clip (V (Proc.devRef .tc main_while0b_c_72)) (V (Proc.devRef .tc main_while0b_c_73)) (V (Proc.devRef .tc main_while0b_v157)))
          (clip (one0 0#32) (one0 15#32) (V (Proc.devRef .tc main_while0b_v159))) (V (Proc.devRef .tc main_while0b_v170)) (V (Proc.devRef .tc main_while0b_v155)) := by
  simp only [afterL_cons, afterL_nil]
  unfold while0Ops0_19 while0Ops0_20 while0Ops0_21 while0Ops0_22 while0Ops0_23 while0Ops0_24
  after_results
  dsimp only [Matrix.cons_val_zero, Matrix.cons_val_one, Matrix.cons_val]
  simp only [↓ readResult, ↓ readPieces]
  rfl

/-- The place one step up. -/
theorem place_up :
    after while0Ops0_24 V (Proc.devRef .tc main_while0b_v220)
        = addi (V (Proc.devRef .tc main_while0b_v28)) (all4 4294967295#32)
      ∧ after while0Ops0_24 V (Proc.devRef .tc main_while0b_v222)
        = addi (V (Proc.devRef .tc main_while0b_v29)) (all4 0#32)
      ∧ after while0Ops0_24 V (Proc.devRef .tc main_while0b_v233)
        = onSheet (addi (V (Proc.devRef .tc main_while0b_v28)) (all4 4294967295#32)) (addi (V (Proc.devRef .tc main_while0b_v29)) (all4 0#32))
      ∧ after while0Ops0_24 V (Proc.devRef .tc main_while0b_c_95)
        = one0 0#32
      ∧ after while0Ops0_24 V (Proc.devRef .tc main_while0b_c_96)
        = one0 15#32 := by
  refine ⟨?_, ?_, ?_, ?_, ?_⟩ <;>
    (unfold while0Ops0_24; after_results; try rfl)

/-- The move up. -/
theorem move_up :
    afterL [while0Ops0_25, while0Ops0_26, while0Ops0_27, while0Ops0_28, while0Ops0_29, while0Ops0_30] V (Proc.devRef .tc main_v3_3)
      = moveAt (V (Proc.devRef .tc main_while0b_v18)) (V (Proc.devRef .tc main_while0b_v19)) (clip (V (Proc.devRef .tc main_while0b_c_95)) (V (Proc.devRef .tc main_while0b_c_96)) (V (Proc.devRef .tc main_while0b_v220)))
          (clip (one0 0#32) (one0 15#32) (V (Proc.devRef .tc main_while0b_v222))) (V (Proc.devRef .tc main_while0b_v233)) (V (Proc.devRef .tc main_while0b_v218)) := by
  simp only [afterL_cons, afterL_nil]
  unfold while0Ops0_25 while0Ops0_26 while0Ops0_27 while0Ops0_28 while0Ops0_29 while0Ops0_30
  after_results
  dsimp only [Matrix.cons_val_zero, Matrix.cons_val_one, Matrix.cons_val]
  simp only [↓ readResult, ↓ readPieces]
  simp only [id_eq]
  rfl

/-- The loop's index after the last stretch. -/
theorem read_index :
    after while0Ops0_30 V (Proc.devRef .tc main_v3_2) = V (Proc.devRef .tc main_while0b_v6) := by
  unfold while0Ops0_30
  after_results
  try rfl

end Cert.ReferenceIdeal.Value

end
-- ==== Proof.RefBody.lean ====
/-
  One round of the reference's loop body is one pass (`pass`) over the sheet, and counts its index up by one: the reads of
  the stretches put together. Between the stretches that write and the stretches that read a value, no stretch writes it.
-/
module

public import proofs.«01_k».proof.Proof.RefRead

@[expose] public section

set_option maxRecDepth 8192

noncomputable section

namespace Cert.ReferenceIdeal.Value

open Cert.ReferenceIdeal Cert.ReferenceIdeal.Gen Idealize.ShloMosaic Idealize.ShloMosaic.TcCoe Idealize.SL.Sem
open Idealize.ShloMosaic.StableHlo Idealize.ShloMosaic.Tactic

local instance : Facts := facts

variable (V : Valuation τ sig (Elt Ideal))

/-! ### Values that stay as they are over some stretches -/

theorem kept_v18_1_6 :
    afterL [while0Ops0_1, while0Ops0_2, while0Ops0_3, while0Ops0_4, while0Ops0_5, while0Ops0_6] V (Proc.devRef .tc main_while0b_v18) = V (Proc.devRef .tc main_while0b_v18) := by
  simp only [afterL_cons, afterL_nil]
  rw [after_of_writes_sub _ _ while0Ops0_6_writes (by decide +kernel),
    after_of_writes_sub _ _ while0Ops0_5_writes (by decide +kernel),
    after_of_writes_sub _ _ while0Ops0_4_writes (by decide +kernel),
    after_of_writes_sub _ _ while0Ops0_3_writes (by decide +kernel),
    after_of_writes_sub _ _ while0Ops0_2_writes (by decide +kernel),
    after_of_writes_sub _ _ while0Ops0_1_writes (by decide +kernel)]

theorem kept_v18_7_12 :
    afterL [while0Ops0_7, while0Ops0_8, while0Ops0_9, while0Ops0_10, while0Ops0_11, while0Ops0_12] V (Proc.devRef .tc main_while0b_v18) = V (Proc.devRef .tc main_while0b_v18) := by
  simp only [afterL_cons, afterL_nil]
  rw [after_of_writes_sub _ _ while0Ops0_12_writes (by decide +kernel),
    after_of_writes_sub _ _ while0Ops0_11_writes (by decide +kernel),
    after_of_writes_sub _ _ while0Ops0_10_writes (by decide +kernel),
    after_of_writes_sub _ _ while0Ops0_9_writes (by decide +kernel),
    after_of_writes_sub _ _ while0Ops0_8_writes (by decide +kernel),
    after_of_writes_sub _ _ while0Ops0_7_writes (by decide +kernel)]

theorem kept_v18_13_18 :
    afterL [while0Ops0_13, while0Ops0_14, while0Ops0_15, while0Ops0_16, while0Ops0_17, while0Ops0_18] V (Proc.devRef .tc main_while0b_v18) = V (Proc.devRef .tc main_while0b_v18) := by
  simp only [afterL_cons, afterL_nil]
  rw [after_of_writes_sub _ _ while0Ops0_18_writes (by decide +kernel),
    after_of_writes_sub _ _ while0Ops0_17_writes (by decide +kernel),
    after_of_writes_sub _ _ while0Ops0_16_writes (by decide +kernel),
    after_of_writes_sub _ _ while0Ops0_15_writes (by decide +kernel),
    after_of_writes_sub _ _ while0Ops0_14_writes (by decide +kernel),
    after_of_writes_sub _ _ while0Ops0_13_writes (by decide +kernel)]

theorem kept_v18_19_24 :
    afterL [while0Ops0_19, while0Ops0_20, while0Ops0_21, while0Ops0_22, while0Ops0_23, while0Ops0_24] V (Proc.devRef .tc main_while0b_v18) = V (Proc.devRef .tc main_while0b_v18) := by
  simp only [afterL_cons, afterL_nil]
  rw [after_of_writes_sub _ _ while0Ops0_24_writes (by decide +kernel),
    after_of_writes_sub _ _ while0Ops0_23_writes (by decide +kernel),
    after_of_writes_sub _ _ while0Ops0_22_writes (by decide +kernel),
    after_of_writes_sub _ _ while0Ops0_21_writes (by decide +kernel),
    after_of_writes_sub _ _ while0Ops0_20_writes (by decide +kernel),
    after_of_writes_sub _ _ while0Ops0_19_writes (by decide +kernel)]

theorem kept_v19_1_6 :
    afterL [while0Ops0_1, while0Ops0_2, while0Ops0_3, while0Ops0_4, while0Ops0_5, while0Ops0_6] V (Proc.devRef .tc main_while0b_v19) = V (Proc.devRef .tc main_while0b_v19) := by
  simp only [afterL_cons, afterL_nil]
  rw [after_of_writes_sub _ _ while0Ops0_6_writes (by decide +kernel),
    after_of_writes_sub _ _ while0Ops0_5_writes (by decide +kernel),
    after_of_writes_sub _ _ while0Ops0_4_writes (by decide +kernel),
    after_of_writes_sub _ _ while0Ops0_3_writes (by decide +kernel),
    after_of_writes_sub _ _ while0Ops0_2_writes (by decide +kernel),
    after_of_writes_sub _ _ while0Ops0_1_writes (by decide +kernel)]

theorem kept_v19_7_12 :
    afterL [while0Ops0_7, while0Ops0_8, while0Ops0_9, while0Ops0_10, while0Ops0_11, while0Ops0_12] V (Proc.devRef .tc main_while0b_v19) = V (Proc.devRef .tc main_while0b_v19) := by
  simp only [afterL_cons, afterL_nil]
  rw [after_of_writes_sub _ _ while0Ops0_12_writes (by decide +kernel),
    after_of_writes_sub _ _ while0Ops0_11_writes (by decide +kernel),
    after_of_writes_sub _ _ while0Ops0_10_writes (by decide +kernel),
    after_of_writes_sub _ _ while0Ops0_9_writes (by decide +kernel),
    after_of_writes_sub _ _ while0Ops0_8_writes (by decide +kernel),
    after_of_writes_sub _ _ while0Ops0_7_writes (by decide +kernel)]

theorem kept_v19_13_18 :
    afterL [while0Ops0_13, while0Ops0_14, while0Ops0_15, while0Ops0_16, while0Ops0_17, while0Ops0_18] V (Proc.devRef .tc main_while0b_v19) = V (Proc.devRef .tc main_while0b_v19) := by
  simp only [afterL_cons, afterL_nil]
  rw [after_of_writes_sub _ _ while0Ops0_18_writes (by decide +kernel),
    after_of_writes_sub _ _ while0Ops0_17_writes (by decide +kernel),
    after_of_writes_sub _ _ while0Ops0_16_writes (by decide +kernel),
    after_of_writes_sub _ _ while0Ops0_15_writes (by decide +kernel),
    after_of_writes_sub _ _ while0Ops0_14_writes (by decide +kernel),
    after_of_writes_sub _ _ while0Ops0_13_writes (by decide +kernel)]

theorem kept_v19_19_24 :
    afterL [while0Ops0_19, while0Ops0_20, while0Ops0_21, while0Ops0_22, while0Ops0_23, while0Ops0_24] V (Proc.devRef .tc main_while0b_v19) = V (Proc.devRef .tc main_while0b_v19) := by
  simp only [afterL_cons, afterL_nil]
  rw [after_of_writes_sub _ _ while0Ops0_24_writes (by decide +kernel),
    after_of_writes_sub _ _ while0Ops0_23_writes (by decide +kernel),
    after_of_writes_sub _ _ while0Ops0_22_writes (by decide +kernel),
    after_of_writes_sub _ _ while0Ops0_21_writes (by decide +kernel),
    after_of_writes_sub _ _ while0Ops0_20_writes (by decide +kernel),
    after_of_writes_sub _ _ while0Ops0_19_writes (by decide +kernel)]

theorem kept_v27_2_3 :
    afterL [while0Ops0_2, while0Ops0_3] V (Proc.devRef .tc main_while0b_v27) = V (Proc.devRef .tc main_while0b_v27) := by
  simp only [afterL_cons, afterL_nil]
  rw [after_of_writes_sub _ _ while0Ops0_3_writes (by decide +kernel),
    after_of_writes_sub _ _ while0Ops0_2_writes (by decide +kernel)]

theorem kept_v28_4_5 :
    afterL [while0Ops0_4, while0Ops0_5] V (Proc.devRef .tc main_while0b_v28) = V (Proc.devRef .tc main_while0b_v28) := by
  simp only [afterL_cons, afterL_nil]
  rw [after_of_writes_sub _ _ while0Ops0_5_writes (by decide +kernel),
    after_of_writes_sub _ _ while0Ops0_4_writes (by decide +kernel)]

theorem kept_v28_6_6 :
    afterL [while0Ops0_6] V (Proc.devRef .tc main_while0b_v28) = V (Proc.devRef .tc main_while0b_v28) := by
  simp only [afterL_cons, afterL_nil]
  rw [after_of_writes_sub _ _ while0Ops0_6_writes (by decide +kernel)]

theorem kept_v28_7_11 :
    afterL [while0Ops0_7, while0Ops0_8, while0Ops0_9, while0Ops0_10, while0Ops0_11] V (Proc.devRef .tc main_while0b_v28) = V (Proc.devRef .tc main_while0b_v28) := by
  simp only [afterL_cons, afterL_nil]
  rw [after_of_writes_sub _ _ while0Ops0_11_writes (by decide +kernel),
    after_of_writes_sub _ _ while0Ops0_10_writes (by decide +kernel),
    after_of_writes_sub _ _ while0Ops0_9_writes (by decide +kernel),
    after_of_writes_sub _ _ while0Ops0_8_writes (by decide +kernel),
    after_of_writes_sub _ _ while0Ops0_7_writes (by decide +kernel)]

theorem kept_v28_12_12 :
    afterL [while0Ops0_12] V (Proc.devRef .tc main_while0b_v28) = V (Proc.devRef .tc main_while0b_v28) := by
  simp only [afterL_cons, afterL_nil]
  rw [after_of_writes_sub _ _ while0Ops0_12_writes (by decide +kernel)]

theorem kept_v28_13_17 :
    afterL [while0Ops0_13, while0Ops0_14, while0Ops0_15, while0Ops0_16, while0Ops0_17] V (Proc.devRef .tc main_while0b_v28) = V (Proc.devRef .tc main_while0b_v28) := by
  simp only [afterL_cons, afterL_nil]
  rw [after_of_writes_sub _ _ while0Ops0_17_writes (by decide +kernel),
    after_of_writes_sub _ _ while0Ops0_16_writes (by decide +kernel),
    after_of_writes_sub _ _ while0Ops0_15_writes (by decide +kernel),
    after_of_writes_sub _ _ while0Ops0_14_writes (by decide +kernel),
    after_of_writes_sub _ _ while0Ops0_13_writes (by decide +kernel)]

theorem kept_v28_18_18 :
    afterL [while0Ops0_18] V (Proc.devRef .tc main_while0b_v28) = V (Proc.devRef .tc main_while0b_v28) := by
  simp only [afterL_cons, afterL_nil]
  rw [after_of_writes_sub _ _ while0Ops0_18_writes (by decide +kernel)]

theorem kept_v28_19_23 :
    afterL [while0Ops0_19, while0Ops0_20, while0Ops0_21, while0Ops0_22, while0Ops0_23] V (Proc.devRef .tc main_while0b_v28) = V (Proc.devRef .tc main_while0b_v28) := by
  simp only [afterL_cons, afterL_nil]
  rw [after_of_writes_sub _ _ while0Ops0_23_writes (by decide +kernel),
    after_of_writes_sub _ _ while0Ops0_22_writes (by decide +kernel),
    after_of_writes_sub _ _ while0Ops0_21_writes (by decide +kernel),
    after_of_writes_sub _ _ while0Ops0_20_writes (by decide +kernel),
    after_of_writes_sub _ _ while0Ops0_19_writes (by decide +kernel)]

theorem kept_v29_6_6 :
    afterL [while0Ops0_6] V (Proc.devRef .tc main_while0b_v29) = V (Proc.devRef .tc main_while0b_v29) := by
  simp only [afterL_cons, afterL_nil]
  rw [after_of_writes_sub _ _ while0Ops0_6_writes (by decide +kernel)]

theorem kept_v29_7_11 :
    afterL [while0Ops0_7, while0Ops0_8, while0Ops0_9, while0Ops0_10, while0Ops0_11] V (Proc.devRef .tc main_while0b_v29) = V (Proc.devRef .tc main_while0b_v29) := by
  simp only [afterL_cons, afterL_nil]
  rw [after_of_writes_sub _ _ while0Ops0_11_writes (by decide +kernel),
    after_of_writes_sub _ _ while0Ops0_10_writes (by decide +kernel),
    after_of_writes_sub _ _ while0Ops0_9_writes (by decide +kernel),
    after_of_writes_sub _ _ while0Ops0_8_writes (by decide +kernel),
    after_of_writes_sub _ _ while0Ops0_7_writes (by decide +kernel)]

theorem kept_v29_12_12 :
    afterL [while0Ops0_12] V (Proc.devRef .tc main_while0b_v29) = V (Proc.devRef .tc main_while0b_v29) := by
  simp only [afterL_cons, afterL_nil]
  rw [after_of_writes_sub _ _ while0Ops0_12_writes (by decide +kernel)]

theorem kept_v29_13_17 :
    afterL [while0Ops0_13, while0Ops0_14, while0Ops0_15, while0Ops0_16, while0Ops0_17] V (Proc.devRef .tc main_while0b_v29) = V (Proc.devRef .tc main_while0b_v29) := by
  simp only [afterL_cons, afterL_nil]
  rw [after_of_writes_sub _ _ while0Ops0_17_writes (by decide +kernel),
    after_of_writes_sub _ _ while0Ops0_16_writes (by decide +kernel),
    after_of_writes_sub _ _ while0Ops0_15_writes (by decide +kernel),
    after_of_writes_sub _ _ while0Ops0_14_writes (by decide +kernel),
    after_of_writes_sub _ _ while0Ops0_13_writes (by decide +kernel)]

theorem kept_v29_18_18 :
    afterL [while0Ops0_18] V (Proc.devRef .tc main_while0b_v29) = V (Proc.devRef .tc main_while0b_v29) := by
  simp only [afterL_cons, afterL_nil]
  rw [after_of_writes_sub _ _ while0Ops0_18_writes (by decide +kernel)]

theorem kept_v29_19_23 :
    afterL [while0Ops0_19, while0Ops0_20, while0Ops0_21, while0Ops0_22, while0Ops0_23] V (Proc.devRef .tc main_while0b_v29) = V (Proc.devRef .tc main_while0b_v29) := by
  simp only [afterL_cons, afterL_nil]
  rw [after_of_writes_sub _ _ while0Ops0_23_writes (by decide +kernel),
    after_of_writes_sub _ _ while0Ops0_22_writes (by decide +kernel),
    after_of_writes_sub _ _ while0Ops0_21_writes (by decide +kernel),
    after_of_writes_sub _ _ while0Ops0_20_writes (by decide +kernel),
    after_of_writes_sub _ _ while0Ops0_19_writes (by decide +kernel)]

theorem kept_v3_3_0_6 :
    afterL [while0Ops0, while0Ops0_1, while0Ops0_2, while0Ops0_3, while0Ops0_4, while0Ops0_5, while0Ops0_6] V (Proc.devRef .tc main_v3_3) = V (Proc.devRef .tc main_v3_3) := by
  simp only [afterL_cons, afterL_nil]
  rw [after_of_writes_sub _ _ while0Ops0_6_writes (by decide +kernel),
    after_of_writes_sub _ _ while0Ops0_5_writes (by decide +kernel),
    after_of_writes_sub _ _ while0Ops0_4_writes (by decide +kernel),
    after_of_writes_sub _ _ while0Ops0_3_writes (by decide +kernel),
    after_of_writes_sub _ _ while0Ops0_2_writes (by decide +kernel),
    after_of_writes_sub _ _ while0Ops0_1_writes (by decide +kernel),
    after_of_writes_sub _ _ while0Ops0_writes (by decide +kernel)]

theorem kept_v6_1_29 :
    afterL [while0Ops0_1, while0Ops0_2, while0Ops0_3, while0Ops0_4, while0Ops0_5, while0Ops0_6, while0Ops0_7, while0Ops0_8, while0Ops0_9, while0Ops0_10, while0Ops0_11, while0Ops0_12, while0Ops0_13, while0Ops0_14, while0Ops0_15, while0Ops0_16, while0Ops0_17, while0Ops0_18, while0Ops0_19, while0Ops0_20, while0Ops0_21, while0Ops0_22, while0Ops0_23, while0Ops0_24, while0Ops0_25, while0Ops0_26, while0Ops0_27, while0Ops0_28, while0Ops0_29] V (Proc.devRef .tc main_while0b_v6) = V (Proc.devRef .tc main_while0b_v6) := by
  simp only [afterL_cons, afterL_nil]
  rw [after_of_writes_sub _ _ while0Ops0_29_writes (by decide +kernel),
    after_of_writes_sub _ _ while0Ops0_28_writes (by decide +kernel),
    after_of_writes_sub _ _ while0Ops0_27_writes (by decide +kernel),
    after_of_writes_sub _ _ while0Ops0_26_writes (by decide +kernel),
    after_of_writes_sub _ _ while0Ops0_25_writes (by decide +kernel),
    after_of_writes_sub _ _ while0Ops0_24_writes (by decide +kernel),
    after_of_writes_sub _ _ while0Ops0_23_writes (by decide +kernel),
    after_of_writes_sub _ _ while0Ops0_22_writes (by decide +kernel),
    after_of_writes_sub _ _ while0Ops0_21_writes (by decide +kernel),
    after_of_writes_sub _ _ while0Ops0_20_writes (by decide +kernel),
    after_of_writes_sub _ _ while0Ops0_19_writes (by decide +kernel),
    after_of_writes_sub _ _ while0Ops0_18_writes (by decide +kernel),
    after_of_writes_sub _ _ while0Ops0_17_writes (by decide +kernel),
    after_of_writes_sub _ _ while0Ops0_16_writes (by decide +kernel),
    after_of_writes_sub _ _ while0Ops0_15_writes (by decide +kernel),
    after_of_writes_sub _ _ while0Ops0_14_writes (by decide +kernel),
    after_of_writes_sub _ _ while0Ops0_13_writes (by decide +kernel),
    after_of_writes_sub _ _ while0Ops0_12_writes (by decide +kernel),
    after_of_writes_sub _ _ while0Ops0_11_writes (by decide +kernel),
    after_of_writes_sub _ _ while0Ops0_10_writes (by decide +kernel),
    after_of_writes_sub _ _ while0Ops0_9_writes (by decide +kernel),
    after_of_writes_sub _ _ while0Ops0_8_writes (by decide +kernel),
    after_of_writes_sub _ _ while0Ops0_7_writes (by decide +kernel),
    after_of_writes_sub _ _ while0Ops0_6_writes (by decide +kernel),
    after_of_writes_sub _ _ while0Ops0_5_writes (by decide +kernel),
    after_of_writes_sub _ _ while0Ops0_4_writes (by decide +kernel),
    after_of_writes_sub _ _ while0Ops0_3_writes (by decide +kernel),
    after_of_writes_sub _ _ while0Ops0_2_writes (by decide +kernel),
    after_of_writes_sub _ _ while0Ops0_1_writes (by decide +kernel)]

/-! ### The stretches one after the other -/

section Stages

variable (x : FVec Ideal S4x128 .f32) (r c : IVec S4 32) (g : FVec Ideal S4x16x16x128 .f32)

/-- The move right, and the place of the next. -/
theorem stage_right (h18 : V (Proc.devRef .tc main_while0b_v18) = x)
    (h19 : V (Proc.devRef .tc main_while0b_v19) = iotaInDim S4 32 0)
    (h28 : V (Proc.devRef .tc main_while0b_v28) = r)
    (h29 : V (Proc.devRef .tc main_while0b_v29) = c)
    (hu : V (Proc.devRef .tc main_while0b_v31) = addi r (all4 0#32))
    (hv : V (Proc.devRef .tc main_while0b_v33) = addi c (all4 1#32))
    (ho : V (Proc.devRef .tc main_while0b_v44) = onSheet (addi r (all4 0#32)) (addi c (all4 1#32)))
    (hlo : V (Proc.devRef .tc main_while0b_c_26) = one0 0#32)
    (hhi : V (Proc.devRef .tc main_while0b_c_27) = one0 15#32)
    (hg : V (Proc.devRef .tc main_v3_3) = g)
    (W : Valuation τ sig (Elt Ideal)) (hW : W = afterL [while0Ops0_7, while0Ops0_8, while0Ops0_9, while0Ops0_10, while0Ops0_11, while0Ops0_12] V) :
    W (Proc.devRef .tc main_while0b_v18) = x ∧
      W (Proc.devRef .tc main_while0b_v19) = iotaInDim S4 32 0 ∧
      W (Proc.devRef .tc main_while0b_v28) = r ∧
      W (Proc.devRef .tc main_while0b_v29) = c ∧
      W (Proc.devRef .tc main_while0b_v94) = addi r (all4 1#32) ∧
      W (Proc.devRef .tc main_while0b_v96) = addi c (all4 0#32) ∧
      W (Proc.devRef .tc main_while0b_v107) = onSheet (addi r (all4 1#32)) (addi c (all4 0#32)) ∧
      W (Proc.devRef .tc main_while0b_c_49) = one0 0#32 ∧
      W (Proc.devRef .tc main_while0b_c_50) = one0 15#32 ∧
      W (Proc.devRef .tc main_while0b_v92) = (moveBy 0#32 1#32 x r c g) := by
  have e : W = after while0Ops0_12 (afterL [while0Ops0_7, while0Ops0_8, while0Ops0_9, while0Ops0_10, while0Ops0_11] V) := by rw [hW]; simp only [afterL_cons, afterL_nil]
  have q28 : afterL [while0Ops0_7, while0Ops0_8, while0Ops0_9, while0Ops0_10, while0Ops0_11] V (Proc.devRef .tc main_while0b_v28) = r := (kept_v28_7_11 V).trans h28
  have q29 : afterL [while0Ops0_7, while0Ops0_8, while0Ops0_9, while0Ops0_10, while0Ops0_11] V (Proc.devRef .tc main_while0b_v29) = c := (kept_v29_7_11 V).trans h29
  obtain ⟨pu, pv, po, plo, phi⟩ := place_down (afterL [while0Ops0_7, while0Ops0_8, while0Ops0_9, while0Ops0_10, while0Ops0_11] V)
  rw [q28] at pu po
  rw [q29] at pv po
  have k28 := kept_v28_12_12 (afterL [while0Ops0_7, while0Ops0_8, while0Ops0_9, while0Ops0_10, while0Ops0_11] V)
  have k29 := kept_v29_12_12 (afterL [while0Ops0_7, while0Ops0_8, while0Ops0_9, while0Ops0_10, while0Ops0_11] V)
  simp only [afterL_cons, afterL_nil] at k28 k29
  have m := move_right V
  rw [h18, h19, hlo, hhi, hu, hv, ho, hg] at m
  refine ⟨?_, ?_, ?_, ?_, ?_, ?_, ?_, ?_, ?_, ?_⟩
  · rw [hW]; exact (kept_v18_7_12 V).trans h18
  · rw [hW]; exact (kept_v19_7_12 V).trans h19
  · rw [e]; exact k28.trans q28
  · rw [e]; exact k29.trans q29
  · rw [e]; exact pu
  · rw [e]; exact pv
  · rw [e]; exact po
  · rw [e]; exact plo
  · rw [e]; exact phi
  · rw [hW]; exact m

/-- The move down, and the place of the next. -/
theorem stage_down (h18 : V (Proc.devRef .tc main_while0b_v18) = x)
    (h19 : V (Proc.devRef .tc main_while0b_v19) = iotaInDim S4 32 0)
    (h28 : V (Proc.devRef .tc main_while0b_v28) = r)
    (h29 : V (Proc.devRef .tc main_while0b_v29) = c)
    (hu : V (Proc.devRef .tc main_while0b_v94) = addi r (all4 1#32))
    (hv : V (Proc.devRef .tc main_while0b_v96) = addi c (all4 0#32))
    (ho : V (Proc.devRef .tc main_while0b_v107) = onSheet (addi r (all4 1#32)) (addi c (all4 0#32)))
    (hlo : V (Proc.devRef .tc main_while0b_c_49) = one0 0#32)
    (hhi : V (Proc.devRef .tc main_while0b_c_50) = one0 15#32)
    (hg : V (Proc.devRef .tc main_while0b_v92) = g)
    (W : Valuation τ sig (Elt Ideal)) (hW : W = afterL [while0Ops0_13, while0Ops0_14, while0Ops0_15, while0Ops0_16, while0Ops0_17, while0Ops0_18] V) :
    W (Proc.devRef .tc main_while0b_v18) = x ∧
      W (Proc.devRef .tc main_while0b_v19) = iotaInDim S4 32 0 ∧
      W (Proc.devRef .tc main_while0b_v28) = r ∧
      W (Proc.devRef .tc main_while0b_v29) = c ∧
      W (Proc.devRef .tc main_while0b_v157) = addi r (all4 0#32) ∧
      W (Proc.devRef .tc main_while0b_v159) = addi c (all4 4294967295#32) ∧
      W (Proc.devRef .tc main_while0b_v170) = onSheet (addi r (all4 0#32)) (addi c (all4 4294967295#32)) ∧
      W (Proc.devRef .tc main_while0b_c_72) = one0 0#32 ∧
      W (Proc.devRef .tc main_while0b_c_73) = one0 15#32 ∧
      W (Proc.devRef .tc main_while0b_v155) = (moveBy 1#32 0#32 x r c g) := by
  have e : W = after while0Ops0_18 (afterL [while0Ops0_13, while0Ops0_14, while0Ops0_15, while0Ops0_16, while0Ops0_17] V) := by rw [hW]; simp only [afterL_cons, afterL_nil]
  have q28 : afterL [while0Ops0_13, while0Ops0_14, while0Ops0_15, while0Ops0_16, while0Ops0_17] V (Proc.devRef .tc main_while0b_v28) = r := (kept_v28_13_17 V).trans h28
  have q29 : afterL [while0Ops0_13, while0Ops0_14, while0Ops0_15, while0Ops0_16, while0Ops0_17] V (Proc.devRef .tc main_while0b_v29) = c := (kept_v29_13_17 V).trans h29
  obtain ⟨pu, pv, po, plo, phi⟩ := place_left (afterL [while0Ops0_13, while0Ops0_14, while0Ops0_15, while0Ops0_16, while0Ops0_17] V)
  rw [q28] at pu po
  rw [q29] at pv po
  have k28 := kept_v28_18_18 (afterL [while0Ops0_13, while0Ops0_14, while0Ops0_15, while0Ops0_16, while0Ops0_17] V)
  have k29 := kept_v29_18_18 (afterL [while0Ops0_13, while0Ops0_14, while0Ops0_15, while0Ops0_16, while0Ops0_17] V)
  simp only [afterL_cons, afterL_nil] at k28 k29
  have m := move_down V
  rw [h18, h19, hlo, hhi, hu, hv, ho, hg] at m
  refine ⟨?_, ?_, ?_, ?_, ?_, ?_, ?_, ?_, ?_, ?_⟩
  · rw [hW]; exact (kept_v18_13_18 V).trans h18
  · rw [hW]; exact (kept_v19_13_18 V).trans h19
  · rw [e]; exact k28.trans q28
  · rw [e]; exact k29.trans q29
  · rw [e]; exact pu
  · rw [e]; exact pv
  · rw [e]; exact po
  · rw [e]; exact plo
  · rw [e]; exact phi
  · rw [hW]; exact m

/-- The move left, and the place of the next. -/
theorem stage_left (h18 : V (Proc.devRef .tc main_while0b_v18) = x)
    (h19 : V (Proc.devRef .tc main_while0b_v19) = iotaInDim S4 32 0)
    (h28 : V (Proc.devRef .tc main_while0b_v28) = r)
    (h29 : V (Proc.devRef .tc main_while0b_v29) = c)
    (hu : V (Proc.devRef .tc main_while0b_v157) = addi r (all4 0#32))
    (hv : V (Proc.devRef .tc main_while0b_v159) = addi c (all4 4294967295#32))
    (ho : V (Proc.devRef .tc main_while0b_v170) = onSheet (addi r (all4 0#32)) (addi c (all4 4294967295#32)))
    (hlo : V (Proc.devRef .tc main_while0b_c_72) = one0 0#32)
    (hhi : V (Proc.devRef .tc main_while0b_c_73) = one0 15#32)
    (hg : V (Proc.devRef .tc main_while0b_v155) = g)
    (W : Valuation τ sig (Elt Ideal)) (hW : W = afterL [while0Ops0_19, while0Ops0_20, while0Ops0_21, while0Ops0_22, while0Ops0_23, while0Ops0_24] V) :
    W (Proc.devRef .tc main_while0b_v18) = x ∧
      W (Proc.devRef .tc main_while0b_v19) = iotaInDim S4 32 0 ∧
      W (Proc.devRef .tc main_while0b_v220) = addi r (all4 4294967295#32) ∧
      W (Proc.devRef .tc main_while0b_v222) = addi c (all4 0#32) ∧
      W (Proc.devRef .tc main_while0b_v233) = onSheet (addi r (all4 4294967295#32)) (addi c (all4 0#32)) ∧
      W (Proc.devRef .tc main_while0b_c_95) = one0 0#32 ∧
      W (Proc.devRef .tc main_while0b_c_96) = one0 15#32 ∧
      W (Proc.devRef .tc main_while0b_v218) = (moveBy 0#32 4294967295#32 x r c g) := by
  have e : W = after while0Ops0_24 (afterL [while0Ops0_19, while0Ops0_20, while0Ops0_21, while0Ops0_22, while0Ops0_23] V) := by rw [hW]; simp only [afterL_cons, afterL_nil]
  have q28 : afterL [while0Ops0_19, while0Ops0_20, while0Ops0_21, while0Ops0_22, while0Ops0_23] V (Proc.devRef .tc main_while0b_v28) = r := (kept_v28_19_23 V).trans h28
  have q29 : afterL [while0Ops0_19, while0Ops0_20, while0Ops0_21, while0Ops0_22, while0Ops0_23] V (Proc.devRef .tc main_while0b_v29) = c := (kept_v29_19_23 V).trans h29
  obtain ⟨pu, pv, po, plo, phi⟩ := place_up (afterL [while0Ops0_19, while0Ops0_20, while0Ops0_21, while0Ops0_22, while0Ops0_23] V)
  rw [q28] at pu po
  rw [q29] at pv po
  have m := move_left V
  rw [h18, h19, hlo, hhi, hu, hv, ho, hg] at m
  refine ⟨?_, ?_, ?_, ?_, ?_, ?_, ?_, ?_⟩
  · rw [hW]; exact (kept_v18_19_24 V).trans h18
  · rw [hW]; exact (kept_v19_19_24 V).trans h19
  · rw [e]; exact pu
  · rw [e]; exact pv
  · rw [e]; exact po
  · rw [e]; exact plo
  · rw [e]; exact phi
  · rw [hW]; exact m

/-- The move up. -/
theorem stage_up (h18 : V (Proc.devRef .tc main_while0b_v18) = x)
    (h19 : V (Proc.devRef .tc main_while0b_v19) = iotaInDim S4 32 0)
    (hu : V (Proc.devRef .tc main_while0b_v220) = addi r (all4 4294967295#32))
    (hv : V (Proc.devRef .tc main_while0b_v222) = addi c (all4 0#32))
    (ho : V (Proc.devRef .tc main_while0b_v233) = onSheet (addi r (all4 4294967295#32)) (addi c (all4 0#32)))
    (hlo : V (Proc.devRef .tc main_while0b_c_95) = one0 0#32)
    (hhi : V (Proc.devRef .tc main_while0b_c_96) = one0 15#32)
    (hg : V (Proc.devRef .tc main_while0b_v218) = g) :
    afterL [while0Ops0_25, while0Ops0_26, while0Ops0_27, while0Ops0_28, while0Ops0_29, while0Ops0_30] V (Proc.devRef .tc main_v3_3) = moveBy 4294967295#32 0#32 x r c g := by
  have m := move_up V
  rw [h18, h19, hlo, hhi, hu, hv, ho, hg] at m
  exact m

end Stages

/-- Up to the place of the first move. -/
theorem stage_near (W : Valuation τ sig (Elt Ideal)) (hW : W = afterL [while0Ops0, while0Ops0_1, while0Ops0_2, while0Ops0_3, while0Ops0_4, while0Ops0_5, while0Ops0_6] V) :
    W (Proc.devRef .tc main_while0b_v18) = (itemAt (V (Proc.devRef .tc main_v3_0)) (V (Proc.devRef .tc main_v3_2))) ∧
      W (Proc.devRef .tc main_while0b_v19) = iotaInDim S4 32 0 ∧
      W (Proc.devRef .tc main_while0b_v28) = (rowsOf (nearest (dists (itemAt (V (Proc.devRef .tc main_v3_0)) (V (Proc.devRef .tc main_v3_2))) (V (Proc.devRef .tc main_v3_3))))) ∧
      W (Proc.devRef .tc main_while0b_v29) = (colsOf (nearest (dists (itemAt (V (Proc.devRef .tc main_v3_0)) (V (Proc.devRef .tc main_v3_2))) (V (Proc.devRef .tc main_v3_3))))) ∧
      W (Proc.devRef .tc main_while0b_v31) = addi (rowsOf (nearest (dists (itemAt (V (Proc.devRef .tc main_v3_0)) (V (Proc.devRef .tc main_v3_2))) (V (Proc.devRef .tc main_v3_3))))) (all4 0#32) ∧
      W (Proc.devRef .tc main_while0b_v33) = addi (colsOf (nearest (dists (itemAt (V (Proc.devRef .tc main_v3_0)) (V (Proc.devRef .tc main_v3_2))) (V (Proc.devRef .tc main_v3_3))))) (all4 1#32) ∧
      W (Proc.devRef .tc main_while0b_v44) = onSheet (addi (rowsOf (nearest (dists (itemAt (V (Proc.devRef .tc main_v3_0)) (V (Proc.devRef .tc main_v3_2))) (V (Proc.devRef .tc main_v3_3))))) (all4 0#32)) (addi (colsOf (nearest (dists (itemAt (V (Proc.devRef .tc main_v3_0)) (V (Proc.devRef .tc main_v3_2))) (V (Proc.devRef .tc main_v3_3))))) (all4 1#32)) ∧
      W (Proc.devRef .tc main_while0b_c_26) = one0 0#32 ∧
      W (Proc.devRef .tc main_while0b_c_27) = one0 15#32 ∧
      W (Proc.devRef .tc main_v3_3) = (V (Proc.devRef .tc main_v3_3)) := by
  obtain ⟨V1, h1⟩ : ∃ V1, V1 = after while0Ops0 V := ⟨_, rfl⟩
  obtain ⟨V2, h2⟩ : ∃ V2, V2 = after while0Ops0_1 V1 := ⟨_, rfl⟩
  obtain ⟨V3, h3⟩ : ∃ V3, V3 = afterL [while0Ops0_2, while0Ops0_3] V2 := ⟨_, rfl⟩
  obtain ⟨V4, h4⟩ : ∃ V4, V4 = afterL [while0Ops0_4, while0Ops0_5] V3 := ⟨_, rfl⟩
  have e : W = after while0Ops0_6 V4 := by rw [hW, h4, h3, h2, h1]; simp only [afterL_cons, afterL_nil]
  have e1 : W = afterL [while0Ops0_1, while0Ops0_2, while0Ops0_3, while0Ops0_4, while0Ops0_5, while0Ops0_6] V1 := by rw [hW, h1]; simp only [afterL_cons, afterL_nil]
  have d26 := read_dists V
  have d18 := read_item V
  have d19 := (read_next V).2
  rw [← h1] at d26 d18 d19
  have d27 := read_nearest V1
  rw [← h2, d26] at d27
  have d28 := read_row V2
  rw [← h3, d27] at d28
  have k27 := kept_v27_2_3 V2
  rw [← h3, d27] at k27
  have d29 := read_col V3
  rw [← h4, k27] at d29
  have k28 := kept_v28_4_5 V3
  rw [← h4, d28] at k28
  obtain ⟨pu, pv, po, plo, phi⟩ := place_right V4
  rw [← e, k28] at pu
  rw [← e, d29] at pv
  rw [← e, k28, d29] at po
  rw [← e] at plo phi
  refine ⟨?_, ?_, ?_, ?_, pu, pv, po, plo, phi, ?_⟩
  · rw [e1]; exact (kept_v18_1_6 V1).trans d18
  · rw [e1]; exact (kept_v19_1_6 V1).trans d19
  · have k := kept_v28_6_6 V4
    simp only [afterL_cons, afterL_nil] at k
    rw [e]; exact k.trans k28
  · have k := kept_v29_6_6 V4
    simp only [afterL_cons, afterL_nil] at k
    rw [e]; exact k.trans d29
  · rw [hW]; exact kept_v3_3_0_6 V

/-- One round of the body is one pass over the sheet. -/
theorem body_grid : afterL bodyI V (Proc.devRef .tc main_v3_3)
    = pass (V (Proc.devRef .tc main_v3_0)) (V (Proc.devRef .tc main_v3_2)) (V (Proc.devRef .tc main_v3_3)) := by
  obtain ⟨W1, h1⟩ : ∃ W, W = afterL [while0Ops0, while0Ops0_1, while0Ops0_2, while0Ops0_3, while0Ops0_4, while0Ops0_5, while0Ops0_6] V := ⟨_, rfl⟩
  obtain ⟨W2, h2⟩ : ∃ W, W = afterL [while0Ops0_7, while0Ops0_8, while0Ops0_9, while0Ops0_10, while0Ops0_11, while0Ops0_12] W1 := ⟨_, rfl⟩
  obtain ⟨W3, h3⟩ : ∃ W, W = afterL [while0Ops0_13, while0Ops0_14, while0Ops0_15, while0Ops0_16, while0Ops0_17, while0Ops0_18] W2 := ⟨_, rfl⟩
  obtain ⟨W4, h4⟩ : ∃ W, W = afterL [while0Ops0_19, while0Ops0_20, while0Ops0_21, while0Ops0_22, while0Ops0_23, while0Ops0_24] W3 := ⟨_, rfl⟩
  have e : afterL bodyI V = afterL [while0Ops0_25, while0Ops0_26, while0Ops0_27, while0Ops0_28, while0Ops0_29, while0Ops0_30] W4 := by
    rw [h4, h3, h2, h1]
    simp only [afterL_cons, afterL_nil]
  obtain ⟨a1, a2, a3, a4, a5, a6, a7, a8, a9, a10⟩ := stage_near V W1 h1
  obtain ⟨b1, b2, b3, b4, b5, b6, b7, b8, b9, b10⟩ := stage_right W1 _ _ _ _ a1 a2 a3 a4 a5 a6 a7 a8 a9 a10 W2 h2
  obtain ⟨c1, c2, c3, c4, c5, c6, c7, c8, c9, c10⟩ := stage_down W2 _ _ _ _ b1 b2 b3 b4 b5 b6 b7 b8 b9 b10 W3 h3
  obtain ⟨d1, d2, d5, d6, d7, d8, d9, d10⟩ := stage_left W3 _ _ _ _ c1 c2 c3 c4 c5 c6 c7 c8 c9 c10 W4 h4
  rw [e, stage_up W4 _ _ _ _ d1 d2 d5 d6 d7 d8 d9 d10]
  unfold pass
  rfl

/-- One round of the body counts its index up by one. -/
theorem body_index : afterL bodyI V (Proc.devRef .tc main_v3_2)
    = addi (V (Proc.devRef .tc main_v3_2)) (one0 1#32) := by
  have e : afterL bodyI V = after while0Ops0_30 (afterL [while0Ops0_1, while0Ops0_2, while0Ops0_3, while0Ops0_4, while0Ops0_5, while0Ops0_6, while0Ops0_7, while0Ops0_8, while0Ops0_9, while0Ops0_10, while0Ops0_11, while0Ops0_12, while0Ops0_13, while0Ops0_14, while0Ops0_15, while0Ops0_16, while0Ops0_17, while0Ops0_18, while0Ops0_19, while0Ops0_20, while0Ops0_21, while0Ops0_22, while0Ops0_23, while0Ops0_24, while0Ops0_25, while0Ops0_26, while0Ops0_27, while0Ops0_28, while0Ops0_29] (after while0Ops0 V)) := by
    simp only [afterL_cons, afterL_nil]
  rw [e, read_index, kept_v6_1_29, (read_next V).1]

end Cert.ReferenceIdeal.Value

end
-- ==== Proof.RefNear.lean ====
/-
  The nearest node as the reference finds it, over real numbers: its distances are the square roots of the squared
  distances, its arg-min is the first node of least distance, and the quotient and remainder by 16 are the node's row and
  column on the sheet.
-/
module

public import proofs.«01_k».proof.Proof.RefBody

@[expose] public section

set_option maxRecDepth 8192

noncomputable section

namespace Cert.ReferenceIdeal.Value

open Cert.ReferenceIdeal Cert.ReferenceIdeal.Gen Idealize.ShloMosaic Idealize.ShloMosaic.TcCoe Som
open Idealize.ShloMosaic.Tactic

local instance : Facts := facts

/-- The number of the node in row `u` and column `v`. -/
abbrev nodeNo (u v : Fin 16) : Fin 256 := ⟨16 * u.val + v.val, by omega⟩

/-- Four sheets of real nodes. -/
def gridR (G : Fin 4 → Nodes) : FVec Ideal S4x16x16x128 .f32 := fun i => ((G (i 0) (nodeNo (i 1) (i 2)) (i 3) : ℝ) : EReal)

/-- Four real items. -/
def itemR (X : Fin 4 → Fin 128 → ℝ) : FVec Ideal S4x128 .f32 := fun i => ((X (i 0) (i 1) : ℝ) : EReal)

theorem gridR_apply (G : Fin 4 → Nodes) (b : Fin 4) (u v : Fin 16) (d : Fin 128) :
    gridR G (ix4 b u v d) = ((G b (nodeNo u v) d : ℝ) : EReal) := rfl

theorem itemR_apply (X : Fin 4 → Fin 128 → ℝ) (b : Fin 4) (d : Fin 128) : itemR X (ix2 b d) = ((X b d : ℝ) : EReal) := rfl

/-- A word for each batch element. -/
def wordsR (f : Fin 4 → ℕ) : IVec S4 32 := fun i => BitVec.ofNat 32 (f (i 0))

theorem wordsR_apply (f : Fin 4 → ℕ) (b : Fin 4) : wordsR f (ix1 b) = BitVec.ofNat 32 (f b) := rfl

/-! ### The distances -/

/-- The squared distance does not depend on which of the two is subtracted. -/
theorem dist2_comm (x : Fin 128 → ℝ) (g : Nodes) (n : Fin 256) : ∑ d, (g n d - x d) * (g n d - x d) = dist2 x g n :=
  Finset.sum_congr rfl fun d _ => by ring

/-- The square root of a real that is not negative. -/
theorem sqrt_real (r : ℝ) (h : 0 ≤ r) : Ideal.sqrt (r : EReal) = ((Real.sqrt r : ℝ) : EReal) := by
  show (if r < 0 then (⊥ : EReal) else ((Real.sqrt r : ℝ) : EReal)) = _
  rw [if_neg (not_lt.mpr h)]

/-- The reference's distance is the square root of the squared distance. -/
theorem dists_apply (X : Fin 4 → Fin 128 → ℝ) (G : Fin 4 → Nodes) (b : Fin 4) (n : Fin 256) :
    dists (itemR X) (gridR G) (ix2 b n) = ((Real.sqrt (dist2 (X b) (G b) n) : ℝ) : EReal) := by
  pointwise [dists, diffs]
  have hn : ∀ h1 h2, nodeNo ⟨n.val / 16, h1⟩ ⟨n.val % 16, h2⟩ = n := fun h1 h2 => Fin.ext (Nat.div_add_mod _ _)
  simp only [gridR_apply, itemR_apply, hn, ← EReal.coe_sub, ← EReal.coe_mul]
  rw [← coe_sum, dist2_comm]
  exact sqrt_real _ (Finset.sum_nonneg fun d _ => mul_self_nonneg _)

/-! ### The arg-min -/

/-- Pair `a` comes no later than pair `b`: by value, then by number. -/
def NoLater (a b : EReal × BitVec 32) : Prop := a.1 < b.1 ∨ (a.1 = b.1 ∧ a.2.toInt ≤ b.2.toInt)

theorem NoLater.refl (a : EReal × BitVec 32) : NoLater a a := Or.inr ⟨rfl, le_refl _⟩

theorem NoLater.trans {a b c : EReal × BitVec 32} (h : NoLater a b) (k : NoLater b c) : NoLater a c := by
  rcases h with h | ⟨h, h'⟩
  · rcases k with k | ⟨k, _⟩
    · exact Or.inl (h.trans k)
    · exact Or.inl (k ▸ h)
  · rcases k with k | ⟨k, k'⟩
    · exact Or.inl (h ▸ k)
    · exact Or.inr ⟨h.trans k, h'.trans k'⟩

/-- The reducer picks one of its two pairs, and that one comes no later than the other. -/
theorem reducer_spec (a b : EReal × BitVec 32) :
    (reducer_argmin_f32_i32 (F := Ideal) a b = a ∨ reducer_argmin_f32_i32 (F := Ideal) a b = b)
      ∧ NoLater (reducer_argmin_f32_i32 (F := Ideal) a b) a ∧ NoLater (reducer_argmin_f32_i32 (F := Ideal) a b) b := by
  obtain ⟨x, p⟩ := a
  obtain ⟨y, q⟩ := b
  rcases lt_trichotomy x y with h | h | h
  · have e : reducer_argmin_f32_i32 (F := Ideal) (x, p) (y, q) = (x, p) := by
      simp [reducer_argmin_f32_i32, Ideal.cmpf_def, Ideal.cmp, h, ne_of_lt h, IntOp.ori, IntOp.andi, Scalar.select]
    rw [e]
    exact ⟨Or.inl rfl, NoLater.refl _, Or.inl h⟩
  · subst h
    by_cases hq : p.toInt < q.toInt
    · have e : reducer_argmin_f32_i32 (F := Ideal) (x, p) (x, q) = (x, p) := by
        simp [reducer_argmin_f32_i32, Ideal.cmpf_def, Ideal.cmp, IntOp.ori, IntOp.andi, Scalar.select, IntOp.cmpi, BitVec.slt, hq]
      rw [e]
      exact ⟨Or.inl rfl, NoLater.refl _, Or.inr ⟨rfl, le_of_lt hq⟩⟩
    · have e : reducer_argmin_f32_i32 (F := Ideal) (x, p) (x, q) = (x, q) := by
        simp [reducer_argmin_f32_i32, Ideal.cmpf_def, Ideal.cmp, IntOp.ori, IntOp.andi, Scalar.select, IntOp.cmpi, BitVec.slt, hq]
      rw [e]
      exact ⟨Or.inr rfl, Or.inr ⟨rfl, not_lt.mp hq⟩, NoLater.refl _⟩
  · have e : reducer_argmin_f32_i32 (F := Ideal) (x, p) (y, q) = (y, q) := by
      simp [reducer_argmin_f32_i32, Ideal.cmpf_def, Ideal.cmp, IntOp.ori, IntOp.andi, Scalar.select, not_lt.mpr h.le, ne_of_gt h]
    rw [e]
    exact ⟨Or.inr rfl, Or.inl h, NoLater.refl _⟩

/-- The fold picks the starting pair or one of the list, and it comes no later than any of them. -/
theorem fold_spec : ∀ (l : List (EReal × BitVec 32)) (a : EReal × BitVec 32),
    (l.foldl (reducer_argmin_f32_i32 (F := Ideal)) a = a ∨ l.foldl (reducer_argmin_f32_i32 (F := Ideal)) a ∈ l)
      ∧ NoLater (l.foldl (reducer_argmin_f32_i32 (F := Ideal)) a) a
      ∧ ∀ p ∈ l, NoLater (l.foldl (reducer_argmin_f32_i32 (F := Ideal)) a) p
  | [], a => ⟨Or.inl rfl, NoLater.refl a, fun _ h => absurd h List.not_mem_nil⟩
  | b :: l, a => by
    obtain ⟨h1, h2, h3⟩ := reducer_spec a b
    obtain ⟨k1, k2, k3⟩ := fold_spec l (reducer_argmin_f32_i32 (F := Ideal) a b)
    rw [List.foldl_cons]
    refine ⟨?_, k2.trans h2, ?_⟩
    · rcases k1 with k1 | k1
      · rw [k1]
        rcases h1 with h1 | h1
        · exact Or.inl h1
        · exact Or.inr (by rw [h1]; exact List.mem_cons_self)
      · exact Or.inr (List.mem_cons_of_mem _ k1)
    · intro p hp
      rcases List.mem_cons.mp hp with rfl | hp
      · exact k2.trans h3
      · exact k3 p hp

/-- Which of the array's elements the arg-min of batch element `b` runs over. -/
theorem drop_iff (b : Fin 4) (i : S4x256.Idx) : reducesTo_S4x256_S4_d1.drop i = ix1 b ↔ i 0 = b := by
  have h : ∀ a : Fin 1, (reducesTo_S4x256_S4_d1.drop i a).val = (i 0).val := fun a => by
    obtain rfl : a = 0 := Subsingleton.elim _ _
    exact Shape.ReducesTo.drop_apply_val _ i 0
  constructor
  · intro e
    have := h 0
    rw [e] at this
    exact Fin.ext this.symm
  · rintro rfl
    funext a
    obtain rfl : a = 0 := Subsingleton.elim _ _
    exact Fin.ext (h 0)

/-- Over real distances the arg-min is the first node of least distance. -/
theorem nearest_eq (q : FVec Ideal S4x256 .f32) (f : Fin 4 → Fin 256 → ℝ) (hq : ∀ b n, q (ix2 b n) = ((f b n : ℝ) : EReal)) :
    nearest q = wordsR fun b => (best (f b)).val := by
  funext j
  obtain ⟨b, rfl⟩ : ∃ b, j = ix1 b := ⟨j 0, by simp⟩
  unfold nearest
  rw [Ideal.argReduce_eq_reduce2, Host.reduce2_eq_foldl_fiber, wordsR_apply]
  obtain ⟨L, hL⟩ : ∃ L, L = Host.argReduceFiber q (iotaInDim S4x256 32 1) reducesTo_S4x256_S4_d1 (ix1 b) := ⟨_, rfl⟩
  have hmem : ∀ p, p ∈ L ↔ ∃ n : Fin 256, p = (((f b n : ℝ) : EReal), BitVec.ofNat 32 n.val) := by
    intro p
    rw [hL]
    unfold Host.argReduceFiber
    simp only [List.mem_map, List.mem_filter, List.mem_finRange, true_and, decide_eq_true_eq, drop_iff]
    constructor
    · rintro ⟨n, hn, rfl⟩
      generalize S4x256.rowMajor.symm n = i at hn ⊢
      obtain ⟨b', m, rfl⟩ : ∃ b m, i = ix2 b m := ⟨i 0, i 1, by simp⟩
      obtain rfl : b' = b := hn
      exact ⟨m, Prod.ext (hq _ _) rfl⟩
    · rintro ⟨n, rfl⟩
      refine ⟨S4x256.rowMajor (ix2 b n), ?_, ?_⟩
      · rw [Equiv.symm_apply_apply]; rfl
      · rw [Equiv.symm_apply_apply, hq]; rfl
  obtain ⟨h1, -, h3⟩ := fold_spec L (⊤, 0#32)
  have hn : ∃ n : Fin 256, L.foldl (reducer_argmin_f32_i32 (F := Ideal)) (⊤, 0#32) = (((f b n : ℝ) : EReal), BitVec.ofNat 32 n.val) := by
    rcases h1 with h1 | h1
    · have := h3 _ ((hmem _).mpr ⟨0, rfl⟩)
      rw [h1] at this
      rcases this with h | ⟨h, -⟩
      · exact absurd h (not_lt.mpr le_top)
      · exact absurd h (EReal.coe_ne_top _).symm
    · exact (hmem _).mp h1
  obtain ⟨n, hn⟩ := hn
  have hb : best (f b) = n := by
    refine best_unique _ n (fun m => ?_) (fun m hm => ?_)
    · have := h3 _ ((hmem _).mpr ⟨m, rfl⟩)
      rw [hn] at this
      rcases this with h | ⟨h, -⟩
      · exact le_of_lt (EReal.coe_lt_coe_iff.mp h)
      · exact le_of_eq (EReal.coe_eq_coe_iff.mp h)
    · have := h3 _ ((hmem _).mpr ⟨m, rfl⟩)
      rw [hn] at this
      rcases this with h | ⟨-, h⟩
      · exact EReal.coe_lt_coe_iff.mp h
      · simp only [toInt_ofNat_fin] at h
        exact absurd hm (not_lt.mpr (by simpa using h))
  rw [hb]
  have hs : ((constant S_ .f32 0x7F800000#32 : FVec Ideal S_ .f32) (Shape.Idx.first h_S_), one0 0#32 (Shape.Idx.first h_S_)) = ((⊤ : EReal), 0#32) := by
    refine Prod.ext ?_ rfl
    exact ofBits_inf
  rw [hs, ← hL, hn]

/-! ### The row and the column -/

/-- The row of one node, as the reference's words. -/
def rowWord (z : BitVec 32) : BitVec 32 :=
  Scalar.select
    (IntOp.andi (IntOp.cmpi .ne (if z = 0 then (0 : BitVec 32) else if z.msb = true then -1 else 1)
        (if 16#32 = 0 then (0 : BitVec 32) else if (16#32).msb = true then -1 else 1))
      (IntOp.cmpi .ne (IntOp.remsi .host z 16#32) 0#32))
    (IntOp.subi (IntOp.divsi .host z 16#32) 1#32) (IntOp.divsi .host z 16#32)

theorem rows_at (z : IVec S4 32) (b : Fin 4) : rowsOf z (ix1 b) = rowWord (z (ix1 b)) := by
  pointwise [rowsOf]
  rfl

set_option maxRecDepth 100000 in
/-- It is the quotient by 16. -/
theorem row_word : ∀ k : Fin 256, rowWord (BitVec.ofNat 32 k.val) = BitVec.ofNat 32 (k.val / 16) := by
  decide +kernel

/-- The quotient by 16 is the node's row. -/
theorem rows_eq (B : Fin 4 → Fin 256) : rowsOf (wordsR fun b => (B b).val) = wordsR fun b => (B b).val / 16 := by
  funext i
  obtain ⟨b, rfl⟩ : ∃ b, i = ix1 b := ⟨i 0, by simp⟩
  rw [rows_at]
  exact row_word (B b)

/-- The column of one node, as the reference's words. -/
def colWord (z : BitVec 32) : BitVec 32 :=
  Scalar.select
    (IntOp.andi (IntOp.cmpi .ne (IntOp.cmpi .slt (IntOp.remsi .host z 16#32) 0#32) 0#1)
      (IntOp.cmpi .ne (IntOp.remsi .host z 16#32) 0#32))
    (IntOp.addi (IntOp.remsi .host z 16#32) 16#32) (IntOp.remsi .host z 16#32)

theorem cols_at (z : IVec S4 32) (b : Fin 4) : colsOf z (ix1 b) = colWord (z (ix1 b)) := rfl

set_option maxRecDepth 100000 in
/-- It is the remainder by 16. -/
theorem col_word : ∀ k : Fin 256, colWord (BitVec.ofNat 32 k.val) = BitVec.ofNat 32 (k.val % 16) := by
  decide +kernel

/-- The remainder by 16 is the node's column. -/
theorem cols_eq (B : Fin 4 → Fin 256) : colsOf (wordsR fun b => (B b).val) = wordsR fun b => (B b).val % 16 := by
  funext i
  obtain ⟨b, rfl⟩ : ∃ b, i = ix1 b := ⟨i 0, by simp⟩
  rw [cols_at]
  exact col_word (B b)

end Cert.ReferenceIdeal.Value

end
-- ==== Proof.RefMove.lean ====
/-
  One move of the reference over real numbers: reading the nodes at the clipped places, moving those whose place is on the
  sheet, and writing them back is the move of one neighbour (`Som.moveOne`); and the whole pass is one step (`Som.step`).
-/
module

public import proofs.«01_k».proof.Proof.RefNear

@[expose] public section

set_option maxRecDepth 8192

noncomputable section

namespace Cert.ReferenceIdeal.Value

open Cert.ReferenceIdeal Cert.ReferenceIdeal.Gen Idealize.ShloMosaic Idealize.ShloMosaic.TcCoe Som
open Idealize.ShloMosaic.Tactic Idealize.ShloMosaic.Routing

local instance : Facts := facts

/-! ### The three index words -/

set_option maxRecDepth 100000 in
/-- A small word is not negative: nothing is added to it. -/
theorem wrap_word : ∀ k : Fin 16, Scalar.select (IntOp.cmpi .slt (BitVec.ofNat 32 k.val) 0#32)
    (IntOp.addi (BitVec.ofNat 32 k.val) 16#32) (BitVec.ofNat 32 k.val) = BitVec.ofNat 32 k.val := by
  decide +kernel

/-- The same for a batch number. -/
theorem wrap_batch : ∀ k : Fin 4, Scalar.select (IntOp.cmpi .slt (BitVec.ofNat 32 k.val) 0#32)
    (IntOp.addi (BitVec.ofNat 32 k.val) 4#32) (BitVec.ofNat 32 k.val) = BitVec.ofNat 32 k.val := by
  decide +kernel

/-- The words of a place, side by side. -/
theorem triple_apply (U W : Fin 4 → Fin 16) (b : Fin 4) :
    (triple (iotaInDim S4 32 0) (wordsR fun b => (U b).val) (wordsR fun b => (W b).val) (ix2 b 0)).toInt = b.val
    ∧ (triple (iotaInDim S4 32 0) (wordsR fun b => (U b).val) (wordsR fun b => (W b).val) (ix2 b 1)).toInt = (U b).val
    ∧ (triple (iotaInDim S4 32 0) (wordsR fun b => (U b).val) (wordsR fun b => (W b).val) (ix2 b 2)).toInt = (W b).val := by
  have h0 : triple (iotaInDim S4 32 0) (wordsR fun b => (U b).val) (wordsR fun b => (W b).val) (ix2 b 0) = BitVec.ofNat 32 b.val := by
    pointwise [triple]
    exact wrap_batch b
  have h1 : triple (iotaInDim S4 32 0) (wordsR fun b => (U b).val) (wordsR fun b => (W b).val) (ix2 b 1) = BitVec.ofNat 32 (U b).val := by
    pointwise [triple]
    exact wrap_word (U b)
  have h2 : triple (iotaInDim S4 32 0) (wordsR fun b => (U b).val) (wordsR fun b => (W b).val) (ix2 b 2) = BitVec.ofNat 32 (W b).val := by
    pointwise [triple]
    exact wrap_word (W b)
  refine ⟨?_, ?_, ?_⟩
  · rw [h0]; exact toInt_ofNat_fin ⟨b.val, by omega⟩
  · rw [h1]; exact toInt_ofNat_fin ⟨(U b).val, by omega⟩
  · rw [h2]; exact toInt_ofNat_fin ⟨(W b).val, by omega⟩

/-! ### Reading the nodes -/

/-- The dimension numbers of the read. -/
abbrev gd : GatherDims S4x16x16x128 S4x3 S4x128 := gather_S4x16x16x128_S4x3_S4x128_1_012_n_n_012_1_111128

/-- Component `q` of the place for batch element `b` is entry `(b, q)` of the index words. -/
theorem gd_words (b : Fin 4) (d : Fin 128) (q : Fin 3) : gd.siIdx (ix2 b d) q = ix2 b q := by
  funext a
  apply Fin.ext
  match a with
  | 0 => rfl
  | 1 => rfl

theorem gd_at0 (b : Fin 4) (d : Fin 128) (z : IVec S4x3 32) : (gd.operandIdx (ix2 b d) z 0).val = min (z (ix2 b 0)).toInt.toNat 3 := by
  rw [← gd_words b d 0]
  rfl

theorem gd_at1 (b : Fin 4) (d : Fin 128) (z : IVec S4x3 32) : (gd.operandIdx (ix2 b d) z 1).val = min (z (ix2 b 1)).toInt.toNat 15 := by
  rw [← gd_words b d 1]
  rfl

theorem gd_at2 (b : Fin 4) (d : Fin 128) (z : IVec S4x3 32) : (gd.operandIdx (ix2 b d) z 2).val = min (z (ix2 b 2)).toInt.toNat 15 := by
  rw [← gd_words b d 2]
  rfl

theorem gd_at3 (b : Fin 4) (d : Fin 128) (z : IVec S4x3 32) : (gd.operandIdx (ix2 b d) z 3).val = d.val := by
  have h : gd.start (ix2 b d) z 3 = 0 := rfl
  have h' : gd.batchCoord (ix2 b d) 3 = 0 := rfl
  have h'' : gd.offCoord (ix2 b d) 3 = d.val := rfl
  show gd.start (ix2 b d) z 3 + gd.batchCoord (ix2 b d) 3 + gd.offCoord (ix2 b d) 3 = _
  omega

/-- The node read for batch element `b` is the one at its place. -/
theorem nodesAt_apply (g : FVec Ideal S4x16x16x128 .f32) (U W : Fin 4 → Fin 16) (b : Fin 4) (d : Fin 128) :
    nodesAt g (triple (iotaInDim S4 32 0) (wordsR fun b => (U b).val) (wordsR fun b => (W b).val)) (ix2 b d)
      = g (ix4 b (U b) (W b) d) := by
  obtain ⟨t0, t1, t2⟩ := triple_apply U W b
  refine congrArg g (funext fun a => Fin.ext ?_)
  match a with
  | 0 =>
    refine (gd_at0 b d _).trans ?_
    rw [t0]
    show min ((b.val : Int)).toNat 3 = b.val
    omega
  | 1 =>
    refine (gd_at1 b d _).trans ?_
    rw [t1]
    show min (((U b).val : Int)).toNat 15 = (U b).val
    omega
  | 2 =>
    refine (gd_at2 b d _).trans ?_
    rw [t2]
    show min (((W b).val : Int)).toNat 15 = (W b).val
    omega
  | 3 => exact gd_at3 b d _

/-! ### Writing them back -/

/-- The dimension numbers of the write. -/
abbrev sd : ScatterDims S4x16x16x128 S4x3 S4x128 := scatter_S4x16x16x128_S4x3_S4x128_1_012_012_1

theorem sd_words (b : Fin 4) (d : Fin 128) (q : Fin 3) : sd.siIdx (ix2 b d) q = ix2 b q := by
  funext a
  apply Fin.ext
  match a with
  | 0 => rfl
  | 1 => rfl

theorem sd_at0 (b : Fin 4) (d : Fin 128) (z : IVec S4x3 32) : sd.start (ix2 b d) z 0 + (sd.window (ix2 b d) 0 : Int) = (z (ix2 b 0)).toInt := by
  have h : sd.window (ix2 b d) 0 = 0 := rfl
  rw [h, ← sd_words b d 0]
  exact Int.add_zero _

theorem sd_at1 (b : Fin 4) (d : Fin 128) (z : IVec S4x3 32) : sd.start (ix2 b d) z 1 + (sd.window (ix2 b d) 1 : Int) = (z (ix2 b 1)).toInt := by
  have h : sd.window (ix2 b d) 1 = 0 := rfl
  rw [h, ← sd_words b d 1]
  exact Int.add_zero _

theorem sd_at2 (b : Fin 4) (d : Fin 128) (z : IVec S4x3 32) : sd.start (ix2 b d) z 2 + (sd.window (ix2 b d) 2 : Int) = (z (ix2 b 2)).toInt := by
  have h : sd.window (ix2 b d) 2 = 0 := rfl
  rw [h, ← sd_words b d 2]
  exact Int.add_zero _

theorem sd_at3 (b : Fin 4) (d : Fin 128) (z : IVec S4x3 32) : sd.start (ix2 b d) z 3 + (sd.window (ix2 b d) 3 : Int) = (d.val : Int) := by
  have h : sd.window (ix2 b d) 3 = d.val := rfl
  have h' : sd.start (ix2 b d) z 3 = 0 := rfl
  rw [h, h']
  exact Int.zero_add _

/-- Where the written node of batch element `b` lands. -/
theorem sd_lands (U W : Fin 4 → Fin 16) (b b' : Fin 4) (u w : Fin 16) (d d' : Fin 128) :
    sd.resultIdx? (ix2 b' d') (triple (iotaInDim S4 32 0) (wordsR fun b => (U b).val) (wordsR fun b => (W b).val)) = some (ix4 b u w d)
      ↔ b' = b ∧ U b' = u ∧ W b' = w ∧ d' = d := by
  obtain ⟨t0, t1, t2⟩ := triple_apply U W b'
  rw [resultIdx?_eq_some]
  constructor
  · intro h
    have h0 := (sd_at0 b' d' _).symm.trans (h 0)
    have h1 := (sd_at1 b' d' _).symm.trans (h 1)
    have h2 := (sd_at2 b' d' _).symm.trans (h 2)
    have h3 := (sd_at3 b' d' _).symm.trans (h 3)
    rw [t0] at h0
    rw [t1] at h1
    rw [t2] at h2
    exact ⟨Fin.ext (Int.ofNat_inj.mp h0), Fin.ext (Int.ofNat_inj.mp h1), Fin.ext (Int.ofNat_inj.mp h2), Fin.ext (Int.ofNat_inj.mp h3)⟩
  · rintro ⟨rfl, rfl, rfl, rfl⟩ a
    match a with
    | 0 => exact (sd_at0 b' d' _).trans t0
    | 1 => exact (sd_at1 b' d' _).trans t1
    | 2 => exact (sd_at2 b' d' _).trans t2
    | 3 => exact sd_at3 b' d' _

/-- The sheet after the write: the new node at each place, the old ones elsewhere. -/
theorem putNodes_apply (g : FVec Ideal S4x16x16x128 .f32) (U W : Fin 4 → Fin 16) (y : FVec Ideal S4x128 .f32)
    (b : Fin 4) (u w : Fin 16) (d : Fin 128) :
    putNodes g (triple (iotaInDim S4 32 0) (wordsR fun b => (U b).val) (wordsR fun b => (W b).val)) y (ix4 b u w d)
      = if U b = u ∧ W b = w then y (ix2 b d) else g (ix4 b u w d) := by
  by_cases h : U b = u ∧ W b = w
  · rw [if_pos h]
    refine scatter_set_hit sd g _ y _ _ (fun k hk => ?_) (ix2 b d) ((sd_lands U W b b u w d d).mpr ⟨rfl, h.1, h.2, rfl⟩)
    obtain ⟨b', d', rfl⟩ : ∃ b' d', k = ix2 b' d' := ⟨k 0, k 1, by simp⟩
    obtain ⟨rfl, -, -, rfl⟩ := (sd_lands U W b b' u w d d').mp hk
    rfl
  · rw [if_neg h]
    refine scatter_set_miss sd g _ y _ (fun k hk => ?_)
    obtain ⟨b', d', rfl⟩ : ∃ b' d', k = ix2 b' d' := ⟨k 0, k 1, by simp⟩
    obtain ⟨rfl, h1, h2, -⟩ := (sd_lands U W b b' u w d d').mp hk
    exact h ⟨h1, h2⟩

/-! ### One move -/

/-- The step of direction `k` along the rows and along the columns. -/
abbrev dirU (k : Fin 4) : BitVec 32 := ![0#32, 1#32, 0#32, 4294967295#32] k
abbrev dirV (k : Fin 4) : BitVec 32 := ![1#32, 0#32, 4294967295#32, 0#32] k

/-- The row and the column of a node. -/
abbrev rowNo (n : Fin 256) : Fin 16 := ⟨n.val / 16, by omega⟩
abbrev colNo (n : Fin 256) : Fin 16 := ⟨n.val % 16, by omega⟩

set_option maxRecDepth 100000 in
/-- The clipped place of direction `k` is the row and the column of the target, and the tests say whether there is a
    neighbour. -/
theorem place_words : ∀ (k : Fin 4) (B : Fin 256),
    IntOp.minsi 15#32 (IntOp.maxsi 0#32 (IntOp.addi (BitVec.ofNat 32 (B.val / 16)) (dirU k))) = BitVec.ofNat 32 (rowNo (tgt k B)).val
    ∧ IntOp.minsi 15#32 (IntOp.maxsi 0#32 (IntOp.addi (BitVec.ofNat 32 (B.val % 16)) (dirV k))) = BitVec.ofNat 32 (colNo (tgt k B)).val
    ∧ IntOp.andi (IntOp.andi (IntOp.andi
          (IntOp.cmpi .sge (IntOp.addi (BitVec.ofNat 32 (B.val / 16)) (dirU k)) 0#32)
          (IntOp.cmpi .slt (IntOp.addi (BitVec.ofNat 32 (B.val / 16)) (dirU k)) 16#32))
          (IntOp.cmpi .sge (IntOp.addi (BitVec.ofNat 32 (B.val % 16)) (dirV k)) 0#32))
          (IntOp.cmpi .slt (IntOp.addi (BitVec.ofNat 32 (B.val % 16)) (dirV k)) 16#32) = BitVec.ofBool (ok k B) := by
  decide +kernel

theorem clip_row (k : Fin 4) (B : Fin 4 → Fin 256) :
    clip (one0 0#32) (one0 15#32) (addi (wordsR fun b => (B b).val / 16) (all4 (dirU k)))
      = wordsR fun b => (rowNo (tgt k (B b))).val := by
  funext i
  obtain ⟨b, rfl⟩ : ∃ b, i = ix1 b := ⟨i 0, by simp⟩
  pointwise [clip]
  exact (place_words k (B b)).1

theorem clip_col (k : Fin 4) (B : Fin 4 → Fin 256) :
    clip (one0 0#32) (one0 15#32) (addi (wordsR fun b => (B b).val % 16) (all4 (dirV k)))
      = wordsR fun b => (colNo (tgt k (B b))).val := by
  funext i
  obtain ⟨b, rfl⟩ : ∃ b, i = ix1 b := ⟨i 0, by simp⟩
  pointwise [clip]
  exact (place_words k (B b)).2.1

theorem onSheet_apply (k : Fin 4) (B : Fin 4 → Fin 256) (b : Fin 4) :
    onSheet (addi (wordsR fun b => (B b).val / 16) (all4 (dirU k))) (addi (wordsR fun b => (B b).val % 16) (all4 (dirV k))) (ix1 b)
      = BitVec.ofBool (ok k (B b)) := by
  pointwise [onSheet]
  exact (place_words k (B b)).2.2

/-- The nodes at the places, moved where the test holds. -/
theorem moved_apply (X : Fin 4 → Fin 128 → ℝ) (cur : FVec Ideal S4x128 .f32) (o : IVec S4 1) (b : Fin 4) (d : Fin 128) (y : ℝ) (t : Bool)
    (hc : cur (ix2 b d) = (y : EReal)) (ho : o (ix1 b) = BitVec.ofBool t) :
    moved (itemR X) cur o (ix2 b d) = (((if t then toward rate (X b d) y else y) : ℝ) : EReal) := by
  pointwise [moved]
  rw [hc, ho, itemR_apply, ofBits_rate]
  cases t
  · rfl
  · show (y : EReal) + (rate : EReal) * ((X b d : EReal) - (y : EReal)) = _
    rw [← EReal.coe_sub, ← EReal.coe_mul, ← EReal.coe_add]
    rfl

/-- One move of the reference moves one neighbour of each batch element's node. -/
theorem moveBy_eq (k : Fin 4) (X : Fin 4 → Fin 128 → ℝ) (B : Fin 4 → Fin 256) (G : Fin 4 → Nodes) :
    moveBy (dirU k) (dirV k) (itemR X) (wordsR fun b => (B b).val / 16) (wordsR fun b => (B b).val % 16) (gridR G)
      = gridR fun b => moveOne rate (X b) (B b) k (G b) := by
  funext i
  obtain ⟨b, u, w, d, rfl⟩ : ∃ b u w d, i = ix4 b u w d := ⟨i 0, i 1, i 2, i 3, by simp⟩
  unfold moveBy moveAt
  rw [clip_row, clip_col, putNodes_apply, gridR_apply, gridR_apply]
  have hT : nodeNo (rowNo (tgt k (B b))) (colNo (tgt k (B b))) = tgt k (B b) := Fin.ext (Nat.div_add_mod _ _)
  have hc := nodesAt_apply (gridR G) (fun b => rowNo (tgt k (B b))) (fun b => colNo (tgt k (B b))) b d
  rw [gridR_apply, hT] at hc
  rw [moved_apply X _ _ b d _ _ hc (onSheet_apply k B b)]
  by_cases h : rowNo (tgt k (B b)) = u ∧ colNo (tgt k (B b)) = w
  · rw [if_pos h]
    obtain ⟨rfl, rfl⟩ := h
    rw [hT]
    simp [moveOne, hits]
  · rw [if_neg h]
    have hn : nodeNo u w ≠ tgt k (B b) := by
      intro e
      refine h ⟨Fin.ext ?_, Fin.ext ?_⟩
      · show (tgt k (B b)).val / 16 = u.val
        rw [← e]; show (16 * u.val + w.val) / 16 = u.val; omega
      · show (tgt k (B b)).val % 16 = w.val
        rw [← e]; show (16 * u.val + w.val) % 16 = w.val; omega
    simp [moveOne, hits, hn]

/-- One pass over real sheets, at an index at which the items are real, is one step of each batch element's map. -/
theorem pass_eq (xs : FVec Ideal S768x4x128 .f32) (k : IVec S_ 32) (X : Fin 4 → Fin 128 → ℝ) (G : Fin 4 → Nodes)
    (hx : itemAt xs k = itemR X) : pass xs k (gridR G) = gridR fun b => step rate (X b) (G b) := by
  have hz := nearest_eq (dists (itemR X) (gridR G)) (fun b n => Real.sqrt (dist2 (X b) (G b) n)) (dists_apply X G)
  simp only [best_sqrt] at hz
  unfold pass
  simp only [hx]
  rw [hz, rows_eq, cols_eq]
  have h0 := moveBy_eq 0 X (fun b => best (dist2 (X b) (G b))) G
  have h1 := moveBy_eq 1 X (fun b => best (dist2 (X b) (G b))) (fun b => moveOne rate (X b) (best (dist2 (X b) (G b))) 0 (G b))
  have h2 := moveBy_eq 2 X (fun b => best (dist2 (X b) (G b))) (fun b => moveOne rate (X b) (best (dist2 (X b) (G b))) 1 (moveOne rate (X b) (best (dist2 (X b) (G b))) 0 (G b)))
  have h3 := moveBy_eq 3 X (fun b => best (dist2 (X b) (G b))) (fun b => moveOne rate (X b) (best (dist2 (X b) (G b))) 2 (moveOne rate (X b) (best (dist2 (X b) (G b))) 1 (moveOne rate (X b) (best (dist2 (X b) (G b))) 0 (G b))))
  rw [← h2, ← h1, ← h0] at h3
  simp only [moveOne_four] at h3
  exact h3

end Cert.ReferenceIdeal.Value

end
-- ==== Proof.RefValue.lean ====
/-
  The reference's run over real arguments: the loop is 768 steps of the map over the items taken three times in order, and
  the result is the sum over the nodes of the map after all items, which is what the kernel computes.
-/
module

public import proofs.«01_k».proof.Proof.RefMove

@[expose] public section

set_option maxRecDepth 8192

noncomputable section

namespace Cert.ReferenceIdeal.Value

open Cert.ReferenceIdeal Cert.ReferenceIdeal.Gen Idealize.ShloMosaic Idealize.ShloMosaic.TcCoe Som
open Idealize.ShloMosaic.Tactic Idealize.ShloMosaic.StableHlo Idealize.SL.Sem
open Cert.KernelIdeal.Gen (arg0E arg1E seqOf maps outE)

local instance : Facts := facts

/-! ### The items -/

/-- The array of items: each batch element's 256 items three times in order. -/
def itemsE (E : Fin 4 → Fin 256 → Fin 128 → ℝ) : FVec Ideal S768x4x128 .f32 := fun i => ((seqOf E (i 1) (i 0).val (i 2) : ℝ) : EReal)

/-- It is three copies of the transposed argument, one after the other. -/
theorem items_eq (E : Fin 4 → Fin 256 → Fin 128 → ℝ) :
    concatenate S768x4x128 0 [⟨S256x4x128, transpose S256x4x128 [1, 0, 2] (arg0E E) transposes_S4x256x128_S256x4x128_1_0_2⟩,
      ⟨S256x4x128, transpose S256x4x128 [1, 0, 2] (arg0E E) transposes_S4x256x128_S256x4x128_1_0_2⟩,
      ⟨S256x4x128, transpose S256x4x128 [1, 0, 2] (arg0E E) transposes_S4x256x128_S256x4x128_1_0_2⟩]
      concatenates_S256x4x128_S256x4x128_S256x4x128_S768x4x128_d0 = itemsE E := by
  funext i
  obtain ⟨k, b, d, rfl⟩ : ∃ k b d, i = ix3 k b d := ⟨i 0, i 1, i 2, by simp⟩
  have hk := k.isLt
  pointwise
  have key : ∀ (j : ℕ) (hj : j < 256), k.val % 256 = j → (arg0E E (ix3 b ⟨j, hj⟩ d) : EReal) = itemsE E (ix3 k b d) := by
    rintro j hj rfl
    rfl
  split
  · exact key _ _ (by omega)
  · split
    · exact key _ _ (by omega)
    · exact key _ _ (by omega)

set_option maxRecDepth 100000 in
/-- The start of the slice at index `k`. -/
theorem start_eq : ∀ k : Fin 768, (min (max (BitVec.toInt (Scalar.select (IntOp.cmpi .slt (BitVec.ofNat 32 k.val) 0#32)
    (IntOp.addi (BitVec.ofNat 32 k.val) 768#32) (BitVec.ofNat 32 k.val))) 0) ((768 - 1 : Nat) : Int)).toNat = k.val := by
  decide +kernel

/-- The item at index `k`. -/
theorem item_eq (E : Fin 4 → Fin 256 → Fin 128 → ℝ) (k : ℕ) (hk : k < 768) :
    itemAt (itemsE E) (fun _ => BitVec.ofNat 32 k) = itemR fun b => seqOf E b k := by
  funext i
  obtain ⟨b, d, rfl⟩ : ∃ b d, i = ix2 b d := ⟨i 0, i 1, by simp⟩
  unfold itemAt
  rw [itemR_apply]
  have h : ∀ z : FVec Ideal S1x4x128 .f32, shapeCast S4x128 z shapeCasts_S1x4x128_S4x128 (ix2 b d) = z (ix3 0 b d) := fun z => by
    pointwise
  rw [h]
  unfold Host.dynamicSlice
  refine Eq.trans (congrArg (itemsE E) (a₂ := ix3 ⟨k, hk⟩ b d) (funext fun a => Fin.ext ?_)) rfl
  match a with
  | 0 => exact start_eq ⟨k, hk⟩
  | 1 =>
    show 0 + b.val = b.val
    omega
  | 2 =>
    show 0 + d.val = d.val
    omega

/-- The starting sheets. -/
theorem start_grid (W : Fin 16 → Fin 16 → Fin 128 → ℝ) :
    broadcastInDim S4x16x16x128 ![1, 2, 3] bcast_S16x16x128_S4x16x16x128_1_2_3 (arg1E W) = gridR fun _ => flat W := by
  funext i
  obtain ⟨b, u, w, d, rfl⟩ : ∃ b u w d, i = ix4 b u w d := ⟨i 0, i 1, i 2, i 3, by simp⟩
  pointwise
  rw [gridR_apply]
  have hu : ∀ h, (⟨(nodeNo u w).val / 16, h⟩ : Fin 16) = u := fun _ => Fin.ext (show (16 * u.val + w.val) / 16 = u.val by omega)
  have hw : ∀ h, (⟨(nodeNo u w).val % 16, h⟩ : Fin 16) = w := fun _ => Fin.ext (show (16 * u.val + w.val) % 16 = w.val by omega)
  simp only [flat, hu, hw]
  rfl

/-- What the program returns of the sheets it ends with. -/
def total (g : FVec Ideal S4x16x16x128 .f32) : FVec Ideal S4x128 .f32 :=
  Host.reduceAdd (shapeCast S4x256x128 g shapeCasts_S4x16x16x128_S4x256x128) (constant S_ .f32 0x00000000#32)
    reducesTo_S4x256x128_S4x128_d1 h_S_

/-- The result: the sum over the nodes. -/
theorem total_eq (G : Fin 4 → Nodes) (b : Fin 4) (d : Fin 128) :
    total (gridR G) (ix2 b d) = ((∑ n, G b n d : ℝ) : EReal) := by
  pointwise [total]
  have hn : ∀ (n : Fin 256) h1 h2, nodeNo ⟨n.val / 16, h1⟩ ⟨n.val % 16, h2⟩ = n := fun n h1 h2 => Fin.ext (Nat.div_add_mod _ _)
  simp only [gridR_apply, hn]
  rw [coe_sum]

/-! ### The loop -/

variable (m : (ℓ : Loc nD τ sig) → Buf (Elt Ideal) ℓ) (ρ : Dev nD → PrngReg) (c : Dev nD)
  (E : Fin 4 → Fin 256 → Fin 128 → ℝ) (W : Fin 16 → Fin 16 → Fin 128 → ℝ)

/-- The items before the loop. -/
theorem entry_items (h : m ((c.tc : Thread nD τ).loc main_arg0) = arg0E E) :
    entryContents preI m c (Proc.devRef .tc main_v3_0) = itemsE E := by
  simp only [entryContents, afterL_cons, afterL_nil]
  unfold hostOps0
  after_results
  dsimp only [Matrix.cons_val_zero, Matrix.cons_val_one, Matrix.cons_val]
  simp only [↓ readResult, ↓ readPieces]
  rw [← items_eq, ← h]
  rfl

/-- The index before the loop. -/
theorem entry_index : entryContents preI m c (Proc.devRef .tc main_v3_2) = fun _ => BitVec.ofNat 32 0 := by
  simp only [entryContents, afterL_cons, afterL_nil]
  unfold hostOps0
  after_results
  rfl

/-- The sheets before the loop. -/
theorem entry_grid (h : m ((c.tc : Thread nD τ).loc main_arg1) = arg1E W) :
    entryContents preI m c (Proc.devRef .tc main_v3_3) = gridR fun _ => flat W := by
  simp only [entryContents, afterL_cons, afterL_nil]
  unfold hostOps0
  after_results
  rw [← start_grid, ← h]
  rfl

/-- Before trip `k` the index is `k` and the sheets are the maps after `k` items. -/
theorem loop_value (h0 : m ((c.tc : Thread nD τ).loc main_arg0) = arg0E E) (h1 : m ((c.tc : Thread nD τ).loc main_arg1) = arg1E W) :
    ∀ k, k ≤ 768 → atTrip condOps bodyI (entryContents preI m) k c (Proc.devRef .tc main_v3_2) = (fun _ => BitVec.ofNat 32 k)
      ∧ atTrip condOps bodyI (entryContents preI m) k c (Proc.devRef .tc main_v3_3) = gridR (maps E (flat W) k)
  | 0, _ => ⟨entry_index m c, entry_grid m c W h1⟩
  | k + 1, hk => by
    obtain ⟨p1, p2⟩ := loop_value h0 h1 k (by omega)
    have p0 := (atTrip_items (entryContents preI m) c k).trans (entry_items m c E h0)
    constructor
    · rw [atTrip_succ, body_index, after_of_writes_sub _ _ condOps_writes (by decide +kernel), p1]
      funext i
      show BitVec.ofNat 32 k + 1#32 = BitVec.ofNat 32 (k + 1)
      rw [BitVec.ofNat_add]
    · rw [atTrip_succ, body_grid, after_of_writes_sub _ _ condOps_writes (by decide +kernel),
        after_of_writes_sub _ _ condOps_writes (by decide +kernel), after_of_writes_sub _ _ condOps_writes (by decide +kernel), p0, p1, p2]
      exact pass_eq _ _ _ _ (item_eq E k (by omega))

omit m c in
/-- What the operations after the loop leave. -/
theorem tail_read (V : Valuation τ sig (Elt Ideal)) : afterL postI V (Proc.devRef .tc main_v5)
    = total (V (Proc.devRef .tc main_v3_3)) := by
  simp only [afterL_cons, afterL_nil]
  unfold hostOps0_1
  after_results
  rfl

/-- The reference's result. -/
theorem final_value (h0 : m ((c.tc : Thread nD τ).loc main_arg0) = arg0E E) (h1 : m ((c.tc : Thread nD τ).loc main_arg1) = arg1E W) :
    finalContents condOps preI bodyI postI 768 m c (Proc.devRef .tc main_v5) = outE E (flat W) := by
  have p := (after_of_writes_sub (r := main_v3_3) condOps (atTrip condOps bodyI (entryContents preI m) 768 c) condOps_writes
    (by decide +kernel)).trans (loop_value m c E W h0 h1 768 (le_refl _)).2
  refine (tail_read _).trans ?_
  rw [p]
  funext i
  obtain ⟨b, d, rfl⟩ : ∃ b d, i = ix2 b d := ⟨i 0, i 1, by simp⟩
  exact total_eq (maps E (flat W) 768) b d

/-- The reference runs, its result is the sum over the nodes of the map after all items, and its arguments are unchanged. -/
theorem run_value (E : Dev nD → Fin 4 → Fin 256 → Fin 128 → ℝ) (W : Dev nD → Fin 16 → Fin 16 → Fin 128 → ℝ)
    (h0 : ∀ c : Dev nD, m ((c.tc : Thread nD τ).loc main_arg0) = arg0E (E c)) (h1 : ∀ c : Dev nD, m ((c.tc : Thread nD τ).loc main_arg1) = arg1E (W c)) :
    θ_run (defs (F := Ideal)) (onTc (τ := τ) (main (F := Ideal))) ⟨m, fun _ => 0, ρ⟩ (fun r => ∀ c : Dev nD,
      r.2.mem ((c.tc : Thread nD τ).loc main_v5) = outE (E c) (flat (W c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c main_v5 (by decide)).trans (final_value m c (E c) (W c) (h0 c) (h1 c)),
      (h c main_arg0 (by decide)).trans (final_arg0 m c), (h c main_arg1 (by decide)).trans (final_arg1 m c)⟩)
    (run_fold m ρ)

end Cert.ReferenceIdeal.Value

end
-- ==== Proof.Finite.lean ====
/-
  The precondition: arguments all of whose elements are finite are arrays of real numbers.
-/
module

public import proofs.«01_k».proof.Proof.RefValue
public import proofs.«01_k».proof.Pre_finite
public import Idealize.ShloMosaic.Lib.ReduceAll

@[expose] public section

noncomputable section

namespace Cert.Pre_finite

open Idealize.ShloMosaic
open Idealize.ShloMosaic.Tactic
open Cert.KernelIdeal.Gen (arg0E arg1E)

/-- The side conditions of the precondition's operations. -/
theorem facts : Facts where
  bcast_S_S4x256x128 := by decide
  reducesTo_S4x256x128_S_d0_1_2 := by decide
  h_S_ := by decide
  bcast_S_S16x16x128 := by decide
  reducesTo_S16x16x128_S_d0_1_2 := by decide

/-- A value whose absolute value is below the greatest is a real number. -/
theorem real_of_abs_lt (x : EReal) (h : max x (-x) < ⊤) : ((x.toReal : ℝ) : EReal) = x := by
  refine EReal.coe_toReal ?_ ?_
  · rintro rfl
    simp at h
  · rintro rfl
    simp at h

/-- One element's comparison with the infinite constant. -/
theorem real_of_cmp (x : Ideal .f32)
    (h : FloatOps.cmpf (F := Ideal) .olt (FloatOps.absf x) (FloatOps.ofBits .f32 0x7F800000#32) = 1#1) :
    ((EReal.toReal x : ℝ) : EReal) = x := by
  refine real_of_abs_lt x ?_
  rw [Ideal.cmpf_def, Ideal.absf_def, show FloatOps.ofBits (F := Ideal) .f32 0x7F800000#32 = (⊤ : EReal) from Som.ofBits_inf] at h
  by_contra hn
  have : (Ideal.cmp .olt (max x (-x)) (⊤ : EReal)) = 0#1 := by
    simp [Ideal.cmp, hn]
  rw [this] at h
  exact absurd h (by decide)

attribute [local instance] facts

/-- Under the precondition both arguments hold real numbers. -/
theorem reals (a0 : FVec Ideal S4x256x128 .f32) (a1 : FVec Ideal S16x16x128 .f32) (h : fn (F := Ideal) a0 a1 = fun _ => 1#1) :
    (∃ E, a0 = arg0E E) ∧ ∃ W, a1 = arg1E W := by
  have : Subsingleton S_.Idx := ⟨fun _ _ => funext fun a => a.elim0⟩
  have h0 := congrFun h (fun a => a.elim0)
  obtain ⟨e0, e1⟩ := IntOp.andi_eq_one.1 h0
  constructor
  · refine ⟨fun b t d => EReal.toReal (a0 (ix3 b t d)), funext fun i => ?_⟩
    obtain ⟨b, t, d, rfl⟩ : ∃ b t d, i = ix3 b t d := ⟨i 0, i 1, i 2, by simp⟩
    exact (real_of_cmp _ (Host.reduce_andi_all _ _ _ _ _ e0 (ix3 b t d))).symm
  · refine ⟨fun u v d => EReal.toReal (a1 (ix3 u v d)), funext fun i => ?_⟩
    obtain ⟨u, v, d, rfl⟩ : ∃ u v d, i = ix3 u v d := ⟨i 0, i 1, i 2, by simp⟩
    exact (real_of_cmp _ (Host.reduce_andi_all _ _ _ _ _ e1 (ix3 u v d))).symm

end Cert.Pre_finite

end
-- ==== Proof.lean ====
/-
  The proof of the certificate's claim.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.RefFrame
public import proofs.«01_k».proof.Proof.Finite
public import Idealize.ShloMosaic.Adequacy
public import Idealize.ShloMosaic.Init

@[expose] public section

noncomputable section

namespace Cert.Proof

open Idealize.ShloMosaic Idealize.SL.Sem Cert.Kernel

/-- Over finite arguments the kernel and the reference both end with the sum over the nodes of the map after all items. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hargs
  choose E hE using fun c => (Cert.Pre_finite.reals _ _ (hpre c)).1
  choose W hW using fun c => (Cert.Pre_finite.reals _ _ (hpre c)).2
  exact ⟨fun c => Cert.KernelIdeal.Gen.outE (E c) (Som.flat (W c)),
    (θ_run Cert.KernelIdeal.defs _ _).mono
      (fun r h c => ⟨(h c).1.trans (Cert.KernelIdeal.Gen.final_value m c (E c) (W c) (hE c) (hW c)), (h c).2⟩)
      (Cert.KernelIdeal.Value.run_blocks m g),
    Cert.ReferenceIdeal.Value.run_value m' g' E W (fun c => (hargs c).1.trans (hE c)) (fun c => (hargs c).2.trans (hW c))⟩

/-- Everything the certificate claims. -/
theorem claim : Cert.Claim :=
  ⟨Cert.Kernel.Gen.facts, Cert.KernelIdeal.Gen.facts, Cert.ReferenceIdeal.Gen.facts, Cert.Pre_finite.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Value.frame m ρ,
    fun m ρ _ => Cert.ReferenceIdeal.Value.frame m ρ,
    ⟨IdealRules.named_const.statement Cert.KernelIdeal.κ "keep_sq" .f32 0x3F7AE7D5#32
        ((282494591793853209 / 288230376151711744 : ℝ) : EReal) rfl,
      IdealRules.named_const.statement Cert.KernelIdeal.κ "cross" .f32 0x3CA2339C#32
        ((2853480660765927 / 144115188075855872 : ℝ) : EReal) rfl,
      IdealRules.named_const.statement Cert.KernelIdeal.κ "rate_sq" .f32 0x38D1B717#32
        ((28823036326681 / 288230376151711744 : ℝ) : EReal) rfl⟩,
    algebraic⟩

end Cert.Proof

end
